-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_unit_norms [hPre_finite_and_unit_norms : Cert.Pre_finite_and_unit_norms.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.1 = (fun _ => 1#1)
    ∧ (Cert.Pre_finite_and_unit_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_unit_norms [hPre_finite_and_unit_norms : Cert.Pre_finite_and_unit_norms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.1 = (fun _ => 1#1)
    ∧ (Cert.Pre_finite_and_unit_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_and_unit_norms [hKernelIdeal : Cert.KernelIdeal.Facts] [hPre_finite_and_unit_norms : Cert.Pre_finite_and_unit_norms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_unit_norms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_and_unit_norms [hReferenceIdeal : Cert.ReferenceIdeal.Facts] [hPre_finite_and_unit_norms : Cert.Pre_finite_and_unit_norms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_unit_norms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_and_unit_norms [hKernelIdeal : Cert.KernelIdeal.Facts] [hReferenceIdeal : Cert.ReferenceIdeal.Facts] [hPre_finite_and_unit_norms : Cert.Pre_finite_and_unit_norms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_unit_norms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v111)) (v1 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_v112) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_and_unit_norms : Cert.Pre_finite_and_unit_norms.Facts),
    quiescent_Kernel (hKernel := hKernel)
    ∧ quiescent_KernelIdeal (hKernelIdeal := hKernelIdeal)
    ∧ quiescent_KernelIdeal_pre_finite_and_unit_norms (hKernelIdeal := hKernelIdeal) (hPre_finite_and_unit_norms := hPre_finite_and_unit_norms)
    ∧ quiescent_ReferenceIdeal (hReferenceIdeal := hReferenceIdeal)
    ∧ quiescent_ReferenceIdeal_pre_finite_and_unit_norms (hReferenceIdeal := hReferenceIdeal) (hPre_finite_and_unit_norms := hPre_finite_and_unit_norms)
    ∧ preserves_Kernel_KernelIdeal
    ∧ algebraic_KernelIdeal_ReferenceIdeal_pre_finite_and_unit_norms (hKernelIdeal := hKernelIdeal) (hReferenceIdeal := hReferenceIdeal) (hPre_finite_and_unit_norms := hPre_finite_and_unit_norms)
-- ==== Pre_finite_and_unit_norms.lean ====
abbrev S4x3x2048 : Shape := ⟨3, ![4, 3, 2048]⟩
abbrev S64x6 : Shape := ⟨2, ![64, 6]⟩
abbrev S64 : Shape := ⟨1, ![64]⟩
abbrev S64x128 : Shape := ⟨2, ![64, 128]⟩
abbrev S128x128 : Shape := ⟨2, ![128, 128]⟩
abbrev S128 : Shape := ⟨1, ![128]⟩
abbrev S1024x256 : Shape := ⟨2, ![1024, 256]⟩
abbrev S1024 : Shape := ⟨1, ![1024]⟩
abbrev S_ : Shape := ⟨0, ![]⟩

class Facts : Prop where
  bcast_S_S4x3x2048 : S_.BroadcastsInDim S4x3x2048 (![] : Fin 0 → Fin S4x3x2048.rank)
  bcast_S_S64x6 : S_.BroadcastsInDim S64x6 (![] : Fin 0 → Fin S64x6.rank)
  bcast_S_S64x128 : S_.BroadcastsInDim S64x128 (![] : Fin 0 → Fin S64x128.rank)
  bcast_S_S128x128 : S_.BroadcastsInDim S128x128 (![] : Fin 0 → Fin S128x128.rank)
  bcast_S_S1024x256 : S_.BroadcastsInDim S1024x256 (![] : Fin 0 → Fin S1024x256.rank)
  bcast_S_S1024 : S_.BroadcastsInDim S1024 (![] : Fin 0 → Fin S1024.rank)
  bcast_S_S64 : S_.BroadcastsInDim S64 (![] : Fin 0 → Fin S64.rank)
  bcast_S_S128 : S_.BroadcastsInDim S128 (![] : Fin 0 → Fin S128.rank)

variable [Facts]

def fn_part1 {F : FTy → Type} [FloatOps F] (main_arg2 : FVec F S64 .f32) (main_arg3 : FVec F S64 .f32) (main_arg5 : FVec F S64 .f32) (main_arg6 : FVec F S64 .f32) (main_arg8 : FVec F S128 .f32) (main_arg9 : FVec F S128 .f32) (main_arg12 : FVec F S1024 .f32) (main_arg13 : FVec F S1024 .f32) (main_v2 : IVec S4x3x2048 1) (main_v5 : IVec S64x6 1) (main_v8 : IVec S64x128 1) (main_v11 : IVec S128x128 1) (main_v14 : IVec S1024x256 1) (main_v17 : IVec S1024 1) : IVec S4x3x2048 1 × IVec S64x6 1 × IVec S64x128 1 × IVec S128x128 1 × IVec S1024x256 1 × IVec S1024 1 × IVec S64 1 × IVec S64 1 × IVec S128 1 × IVec S1024 1 × IVec S64 1 × IVec S64 1 × IVec S128 1 × IVec S1024 1 :=
  let main_cst_5 : FVec F S_ .f32 := constant S_ .f32 0x3F800000#32
  let main_v18 : FVec F S64 .f32 := broadcastInDim S64 ![] bcast_S_S64 main_cst_5
  let main_v19 : IVec S64 1 := cmpf .oeq main_arg2 main_v18
  let main_cst_6 : FVec F S_ .f32 := constant S_ .f32 0x3F800000#32
  let main_v20 : FVec F S64 .f32 := broadcastInDim S64 ![] bcast_S_S64 main_cst_6
  let main_v21 : IVec S64 1 := cmpf .oeq main_arg5 main_v20
  let main_cst_7 : FVec F S_ .f32 := constant S_ .f32 0x3F800000#32
  let main_v22 : FVec F S128 .f32 := broadcastInDim S128 ![] bcast_S_S128 main_cst_7
  let main_v23 : IVec S128 1 := cmpf .oeq main_arg8 main_v22
  let main_cst_8 : FVec F S_ .f32 := constant S_ .f32 0x3F800000#32
  let main_v24 : FVec F S1024 .f32 := broadcastInDim S1024 ![] bcast_S_S1024 main_cst_8
  let main_v25 : IVec S1024 1 := cmpf .oeq main_arg12 main_v24
  let main_cst_9 : FVec F S_ .f32 := constant S_ .f32 0x00000000#32
  let main_v26 : FVec F S64 .f32 := broadcastInDim S64 ![] bcast_S_S64 main_cst_9
  let main_v27 : IVec S64 1 := cmpf .oeq main_arg3 main_v26
  let main_cst_10 : FVec F S_ .f32 := constant S_ .f32 0x00000000#32
  let main_v28 : FVec F S64 .f32 := broadcastInDim S64 ![] bcast_S_S64 main_cst_10
  let main_v29 : IVec S64 1 := cmpf .oeq main_arg6 main_v28
  let main_cst_11 : FVec F S_ .f32 := constant S_ .f32 0x00000000#32
  let main_v30 : FVec F S128 .f32 := broadcastInDim S128 ![] bcast_S_S128 main_cst_11
  let main_v31 : IVec S128 1 := cmpf .oeq main_arg9 main_v30
  let main_cst_12 : FVec F S_ .f32 := constant S_ .f32 0x00000000#32
  let main_v32 : FVec F S1024 .f32 := broadcastInDim S1024 ![] bcast_S_S1024 main_cst_12
  let main_v33 : IVec S1024 1 := cmpf .oeq main_arg13 main_v32
  (main_v2, main_v5, main_v8, main_v11, main_v14, main_v17, main_v19, main_v21, main_v23, main_v25, main_v27, main_v29, main_v31, main_v33)

def fn {F : FTy → Type} [FloatOps F] (main_arg0 : FVec F S4x3x2048 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S1024x256 .f32) (main_arg11 : FVec F S1024 .f32) (main_arg12 : FVec F S1024 .f32) (main_arg13 : FVec F S1024 .f32) : IVec S4x3x2048 1 × IVec S64x6 1 × IVec S64x128 1 × IVec S128x128 1 × IVec S1024x256 1 × IVec S1024 1 × IVec S64 1 × IVec S64 1 × IVec S128 1 × IVec S1024 1 × IVec S64 1 × IVec S64 1 × IVec S128 1 × IVec S1024 1 :=
  let main_v0 : FVec F S4x3x2048 .f32 := Host.absf main_arg0
  let main_cst : FVec F S_ .f32 := constant S_ .f32 0x7F800000#32
  let main_v1 : FVec F S4x3x2048 .f32 := broadcastInDim S4x3x2048 ![] bcast_S_S4x3x2048 main_cst
  let main_v2 : IVec S4x3x2048 1 := cmpf .olt main_v0 main_v1
  let main_v3 : FVec F S64x6 .f32 := Host.absf main_arg1
  let main_cst_0 : FVec F S_ .f32 := constant S_ .f32 0x7F800000#32
  let main_v4 : FVec F S64x6 .f32 := broadcastInDim S64x6 ![] bcast_S_S64x6 main_cst_0
  let main_v5 : IVec S64x6 1 := cmpf .olt main_v3 main_v4
  let main_v6 : FVec F S64x128 .f32 := Host.absf main_arg4
  let main_cst_1 : FVec F S_ .f32 := constant S_ .f32 0x7F800000#32
  let main_v7 : FVec F S64x128 .f32 := broadcastInDim S64x128 ![] bcast_S_S64x128 main_cst_1
  let main_v8 : IVec S64x128 1 := cmpf .olt main_v6 main_v7
  let main_v9 : FVec F S128x128 .f32 := Host.absf main_arg7
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S1024x256 .f32 := Host.absf main_arg10
  let main_cst_3 : FVec F S_ .f32 := constant S_ .f32 0x7F800000#32
  let main_v13 : FVec F S1024x256 .f32 := broadcastInDim S1024x256 ![] bcast_S_S1024x256 main_cst_3
  let main_v14 : IVec S1024x256 1 := cmpf .olt main_v12 main_v13
  let main_v15 : FVec F S1024 .f32 := Host.absf main_arg11
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg2 main_arg3 main_arg5 main_arg6 main_arg8 main_arg9 main_arg12 main_arg13 main_v2 main_v5 main_v8 main_v11 main_v14 main_v17
-- ==== Kernel.lean ====
abbrev S4x3x2048 : Shape := ⟨3, ![4, 3, 2048]⟩
abbrev S64x6 : Shape := ⟨2, ![64, 6]⟩
abbrev S64 : Shape := ⟨1, ![64]⟩
abbrev S64x128 : Shape := ⟨2, ![64, 128]⟩
abbrev S128x128 : Shape := ⟨2, ![128, 128]⟩
abbrev S128 : Shape := ⟨1, ![128]⟩
abbrev S1024x256 : Shape := ⟨2, ![1024, 256]⟩
abbrev S1024 : Shape := ⟨1, ![1024]⟩
abbrev S4x2048x3 : Shape := ⟨3, ![4, 2048, 3]⟩
abbrev S64x3 : Shape := ⟨2, ![64, 3]⟩
abbrev S3x64 : Shape := ⟨2, ![3, 64]⟩
abbrev S4x2048x2048 : Shape := ⟨3, ![4, 2048, 2048]⟩
abbrev S4x2048x64 : Shape := ⟨3, ![4, 2048, 64]⟩
abbrev S1x256x3 : Shape := ⟨3, ![1, 256, 3]⟩
abbrev S1x3x2048 : Shape := ⟨3, ![1, 3, 2048]⟩
abbrev S1x256x2048 : Shape := ⟨3, ![1, 256, 2048]⟩
abbrev S1x256x64 : Shape := ⟨3, ![1, 256, 64]⟩
abbrev S256x3 : Shape := ⟨2, ![256, 3]⟩
abbrev S3x2048 : Shape := ⟨2, ![3, 2048]⟩
abbrev S256x2048 : Shape := ⟨2, ![256, 2048]⟩
abbrev S256 : Shape := ⟨1, ![256]⟩
abbrev S2048 : Shape := ⟨1, ![2048]⟩
abbrev S1x2048 : Shape := ⟨2, ![1, 2048]⟩
abbrev S256x1 : Shape := ⟨2, ![256, 1]⟩
abbrev S256x64 : Shape := ⟨2, ![256, 64]⟩
abbrev S4x2048x80 : Shape := ⟨3, ![4, 2048, 80]⟩
abbrev S4 : Shape := ⟨1, ![4]⟩
abbrev S4x1x1 : Shape := ⟨3, ![4, 1, 1]⟩
abbrev S_ : Shape := ⟨0, ![]⟩
abbrev S4x2048x80x1 : Shape := ⟨4, ![4, 2048, 80, 1]⟩
abbrev S4x2048x80x2 : Shape := ⟨4, ![4, 2048, 80, 2]⟩
abbrev S4x2048x80x3 : Shape := ⟨4, ![4, 2048, 80, 3]⟩
abbrev S4x2048x1x3 : Shape := ⟨4, ![4, 2048, 1, 3]⟩
abbrev S4x2048x80x6 : Shape := ⟨4, ![4, 2048, 80, 6]⟩
abbrev S4x2048x80x64 : Shape := ⟨4, ![4, 2048, 80, 64]⟩
abbrev S1x2048x64 : Shape := ⟨3, ![1, 2048, 64]⟩
abbrev S2048x64 : Shape := ⟨2, ![2048, 64]⟩
abbrev S1x64 : Shape := ⟨2, ![1, 64]⟩
abbrev S32 : Shape := ⟨1, ![32]⟩
abbrev S1x32 : Shape := ⟨2, ![1, 32]⟩
abbrev S1 : Shape := ⟨1, ![1]⟩
abbrev S1x1 : Shape := ⟨2, ![1, 1]⟩
abbrev S64x64 : Shape := ⟨2, ![64, 64]⟩
abbrev S4x64x2048 : Shape := ⟨3, ![4, 64, 2048]⟩
abbrev S1x64x2048 : Shape := ⟨3, ![1, 64, 2048]⟩
abbrev S64x2048 : Shape := ⟨2, ![64, 2048]⟩
abbrev S4x2048x1x64 : Shape := ⟨4, ![4, 2048, 1, 64]⟩
abbrev S4x2048x80x128 : Shape := ⟨4, ![4, 2048, 80, 128]⟩
abbrev S128x64 : Shape := ⟨2, ![128, 64]⟩
abbrev S4x2048x128 : Shape := ⟨3, ![4, 2048, 128]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S1x128 : Shape := ⟨2, ![1, 128]⟩
abbrev S4x2048x256 : Shape := ⟨3, ![4, 2048, 256]⟩
abbrev S256x1024 : Shape := ⟨2, ![256, 1024]⟩
abbrev S4x1x1024 : Shape := ⟨3, ![4, 1, 1024]⟩
abbrev S1x2048x256 : Shape := ⟨3, ![1, 2048, 256]⟩
abbrev S1x1x1024 : Shape := ⟨3, ![1, 1, 1024]⟩
abbrev S2048x256 : Shape := ⟨2, ![2048, 256]⟩
abbrev S2048x1024 : Shape := ⟨2, ![2048, 1024]⟩
abbrev S1x1024 : Shape := ⟨2, ![1, 1024]⟩
abbrev S4x1024 : Shape := ⟨2, ![4, 1024]⟩
abbrev S4x256x2048 : Shape := ⟨3, ![4, 256, 2048]⟩

abbrev nBuf : Space → Nat
  | .hbm => 163
  | .vmem => 72
  | .smem => 0
  | _ => 0

abbrev hbmTy0_0 (i : Nat) : BufTy := match i % 128 with
  | 0 => ⟨S4x3x2048, .f32⟩
  | 1 => ⟨S64x6, .f32⟩
  | 2 => ⟨S64, .f32⟩
  | 3 => ⟨S64, .f32⟩
  | 4 => ⟨S64x128, .f32⟩
  | 5 => ⟨S64, .f32⟩
  | 6 => ⟨S64, .f32⟩
  | 7 => ⟨S128x128, .f32⟩
  | 8 => ⟨S128, .f32⟩
  | 9 => ⟨S128, .f32⟩
  | 10 => ⟨S1024x256, .f32⟩
  | 11 => ⟨S1024, .f32⟩
  | 12 => ⟨S1024, .f32⟩
  | 13 => ⟨S1024, .f32⟩
  | 14 => ⟨S4x2048x3, .f32⟩
  | 15 => ⟨S64x3, .f32⟩
  | 16 => ⟨S3x64, .f32⟩
  | 17 => ⟨S64x3, .f32⟩
  | 18 => ⟨S64x3, .f32⟩
  | 19 => ⟨S64x3, .f32⟩
  | 20 => ⟨S3x64, .f32⟩
  | 21 => ⟨S4x2048x2048, .f32⟩
  | 22 => ⟨S4x2048x64, .f32⟩
  | 23 => ⟨S4x2048x64, .f32⟩
  | 24 => ⟨S4x2048x80, .f32⟩
  | 25 => ⟨S4x2048x80, .i32⟩
  | 26 => ⟨S4, .i32⟩
  | 27 => ⟨S4x1x1, .i32⟩
  | 28 => ⟨S_, .i32⟩
  | 29 => ⟨S4x1x1, .i32⟩
  | 30 => ⟨S4x1x1, .i1⟩
  | 31 => ⟨S_, .i32⟩
  | 32 => ⟨S4x1x1, .i32⟩
  | 33 => ⟨S4x1x1, .i32⟩
  | 34 => ⟨S4x1x1, .i32⟩
  | 35 => ⟨S_, .i32⟩
  | 36 => ⟨S4x2048x80, .i32⟩
  | 37 => ⟨S4x2048x80, .i1⟩
  | 38 => ⟨S_, .i32⟩
  | 39 => ⟨S4x2048x80, .i32⟩
  | 40 => ⟨S4x2048x80, .i32⟩
  | 41 => ⟨S4x2048x80, .i32⟩
  | 42 => ⟨S4x2048x80, .i32⟩
  | 43 => ⟨S4x2048x80x1, .i32⟩
  | 44 => ⟨S4x2048x80x1, .i32⟩
  | 45 => ⟨S4x2048x80x2, .i32⟩
  | 46 => ⟨S4x2048x80x3, .f32⟩
  | 47 => ⟨S4x2048x1x3, .f32⟩
  | 48 => ⟨S4x2048x80x3, .f32⟩
  | 49 => ⟨S4x2048x80x3, .f32⟩
  | 50 => ⟨S4x2048x80x6, .f32⟩
  | 51 => ⟨S4x2048x80x64, .f32⟩
  | 52 => ⟨S_, .f32⟩
  | 53 => ⟨S4x2048x64, .f32⟩
  | 54 => ⟨S_, .f32⟩
  | 55 => ⟨S4x2048x64, .f32⟩
  | 56 => ⟨S4x2048x80x64, .f32⟩
  | 57 => ⟨S_, .f32⟩
  | 58 => ⟨S4x2048x64, .f32⟩
  | 59 => ⟨S_, .f32⟩
  | 60 => ⟨S4x2048x64, .f32⟩
  | 61 => ⟨S4x2048x64, .f32⟩
  | 62 => ⟨S64x64, .f32⟩
  | 63 => ⟨S64x64, .f32⟩
  | 64 => ⟨S64x64, .f32⟩
  | 65 => ⟨S64x64, .f32⟩
  | 66 => ⟨S64x64, .f32⟩
  | 67 => ⟨S64x64, .f32⟩
  | 68 => ⟨S4x64x2048, .f32⟩
  | 69 => ⟨S4x2048x2048, .f32⟩
  | 70 => ⟨S4x2048x64, .f32⟩
  | 71 => ⟨S4x2048x64, .f32⟩
  | 72 => ⟨S4x2048x80, .f32⟩
  | 73 => ⟨S4x2048x80, .i32⟩
  | 74 => ⟨S4, .i32⟩
  | 75 => ⟨S4x1x1, .i32⟩
  | 76 => ⟨S_, .i32⟩
  | 77 => ⟨S4x1x1, .i32⟩
  | 78 => ⟨S4x1x1, .i1⟩
  | 79 => ⟨S_, .i32⟩
  | 80 => ⟨S4x1x1, .i32⟩
  | 81 => ⟨S4x1x1, .i32⟩
  | 82 => ⟨S4x1x1, .i32⟩
  | 83 => ⟨S_, .i32⟩
  | 84 => ⟨S4x2048x80, .i32⟩
  | 85 => ⟨S4x2048x80, .i1⟩
  | 86 => ⟨S_, .i32⟩
  | 87 => ⟨S4x2048x80, .i32⟩
  | 88 => ⟨S4x2048x80, .i32⟩
  | 89 => ⟨S4x2048x80, .i32⟩
  | 90 => ⟨S4x2048x80, .i32⟩
  | 91 => ⟨S4x2048x80x1, .i32⟩
  | 92 => ⟨S4x2048x80x1, .i32⟩
  | 93 => ⟨S4x2048x80x2, .i32⟩
  | 94 => ⟨S4x2048x80x64, .f32⟩
  | 95 => ⟨S4x2048x1x64, .f32⟩
  | 96 => ⟨S4x2048x80x64, .f32⟩
  | 97 => ⟨S4x2048x80x64, .f32⟩
  | 98 => ⟨S4x2048x80x128, .f32⟩
  | 99 => ⟨S4x2048x80x64, .f32⟩
  | 100 => ⟨S_, .f32⟩
  | 101 => ⟨S4x2048x64, .f32⟩
  | 102 => ⟨S_, .f32⟩
  | 103 => ⟨S4x2048x64, .f32⟩
  | 104 => ⟨S4x2048x80x64, .f32⟩
  | 105 => ⟨S_, .f32⟩
  | 106 => ⟨S4x2048x64, .f32⟩
  | 107 => ⟨S_, .f32⟩
  | 108 => ⟨S4x2048x64, .f32⟩
  | 109 => ⟨S4x2048x64, .f32⟩
  | 110 => ⟨S128x64, .f32⟩
  | 111 => ⟨S64x128, .f32⟩
  | 112 => ⟨S128x64, .f32⟩
  | 113 => ⟨S128x64, .f32⟩
  | 114 => ⟨S128x64, .f32⟩
  | 115 => ⟨S64x128, .f32⟩
  | 116 => ⟨S4x64x2048, .f32⟩
  | 117 => ⟨S4x2048x2048, .f32⟩
  | 118 => ⟨S4x2048x128, .f32⟩
  | 119 => ⟨S4x2048x128, .f32⟩
  | 120 => ⟨S4x2048x80, .f32⟩
  | 121 => ⟨S4x2048x80, .i32⟩
  | 122 => ⟨S4, .i32⟩
  | 123 => ⟨S4x1x1, .i32⟩
  | 124 => ⟨S_, .i32⟩
  | 125 => ⟨S4x1x1, .i32⟩
  | 126 => ⟨S4x1x1, .i1⟩
  | 127 => ⟨S_, .i32⟩
  | _ => ⟨S4x3x2048, .f32⟩

abbrev hbmTy0_1 (i : Nat) : BufTy := match i % 128 with
  | 0 => ⟨S4x1x1, .i32⟩
  | 1 => ⟨S4x1x1, .i32⟩
  | 2 => ⟨S4x1x1, .i32⟩
  | 3 => ⟨S_, .i32⟩
  | 4 => ⟨S4x2048x80, .i32⟩
  | 5 => ⟨S4x2048x80, .i1⟩
  | 6 => ⟨S_, .i32⟩
  | 7 => ⟨S4x2048x80, .i32⟩
  | 8 => ⟨S4x2048x80, .i32⟩
  | 9 => ⟨S4x2048x80, .i32⟩
  | 10 => ⟨S4x2048x80, .i32⟩
  | 11 => ⟨S4x2048x80x1, .i32⟩
  | 12 => ⟨S4x2048x80x1, .i32⟩
  | 13 => ⟨S4x2048x80x2, .i32⟩
  | 14 => ⟨S4x2048x80x64, .f32⟩
  | 15 => ⟨S4x2048x1x64, .f32⟩
  | 16 => ⟨S4x2048x80x64, .f32⟩
  | 17 => ⟨S4x2048x80x64, .f32⟩
  | 18 => ⟨S4x2048x80x128, .f32⟩
  | 19 => ⟨S4x2048x80x128, .f32⟩
  | 20 => ⟨S_, .f32⟩
  | 21 => ⟨S4x2048x128, .f32⟩
  | 22 => ⟨S_, .f32⟩
  | 23 => ⟨S4x2048x128, .f32⟩
  | 24 => ⟨S4x2048x80x128, .f32⟩
  | 25 => ⟨S_, .f32⟩
  | 26 => ⟨S4x2048x128, .f32⟩
  | 27 => ⟨S_, .f32⟩
  | 28 => ⟨S4x2048x128, .f32⟩
  | 29 => ⟨S4x2048x128, .f32⟩
  | 30 => ⟨S4x2048x256, .f32⟩
  | 31 => ⟨S256x1024, .f32⟩
  | 32 => ⟨S4x1x1024, .f32⟩
  | 33 => ⟨S4x1024, .f32⟩
  | 34 => ⟨S4x256x2048, .f32⟩
  | _ => ⟨S4x3x2048, .f32⟩

abbrev hbmTy (i : Nat) : BufTy := match i / 128 with
  | 0 => hbmTy0_0 i
  | 1 => hbmTy0_1 i
  | _ => ⟨S4x3x2048, .f32⟩

abbrev bufTy : (tb : Table) → Fin (tcTables nBuf tb) → BufTy
  | .hbm, ⟨i, _⟩ => hbmTy i
  | .local _ .vmem, ⟨0, _⟩ => ⟨S1x256x3, .f32⟩
  | .local _ .vmem, ⟨1, _⟩ => ⟨S1x256x3, .f32⟩
  | .local _ .vmem, ⟨2, _⟩ => ⟨S1x3x2048, .f32⟩
  | .local _ .vmem, ⟨3, _⟩ => ⟨S1x3x2048, .f32⟩
  | .local _ .vmem, ⟨4, _⟩ => ⟨S3x64, .f32⟩
  | .local _ .vmem, ⟨5, _⟩ => ⟨S3x64, .f32⟩
  | .local _ .vmem, ⟨6, _⟩ => ⟨S1x256x2048, .f32⟩
  | .local _ .vmem, ⟨7, _⟩ => ⟨S1x256x2048, .f32⟩
  | .local _ .vmem, ⟨8, _⟩ => ⟨S1x256x64, .f32⟩
  | .local _ .vmem, ⟨9, _⟩ => ⟨S1x256x64, .f32⟩
  | .local _ .vmem, ⟨10, _⟩ => ⟨S1x256x64, .f32⟩
  | .local _ .vmem, ⟨11, _⟩ => ⟨S1x256x64, .f32⟩
  | .local _ .vmem, ⟨12, _⟩ => ⟨S1x2048x64, .f32⟩
  | .local _ .vmem, ⟨13, _⟩ => ⟨S1x2048x64, .f32⟩
  | .local _ .vmem, ⟨14, _⟩ => ⟨S1x2048x64, .f32⟩
  | .local _ .vmem, ⟨15, _⟩ => ⟨S1x2048x64, .f32⟩
  | .local _ .vmem, ⟨16, _⟩ => ⟨S1x2048x64, .f32⟩
  | .local _ .vmem, ⟨17, _⟩ => ⟨S1x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x2048x64, .f32⟩
  | .local _ .vmem, ⟨21, _⟩ => ⟨S1x2048x64, .f32⟩
  | .local _ .vmem, ⟨22, _⟩ => ⟨S1x256x64, .f32⟩
  | .local _ .vmem, ⟨23, _⟩ => ⟨S1x256x64, .f32⟩
  | .local _ .vmem, ⟨24, _⟩ => ⟨S1x64x2048, .f32⟩
  | .local _ .vmem, ⟨25, _⟩ => ⟨S1x64x2048, .f32⟩
  | .local _ .vmem, ⟨26, _⟩ => ⟨S64x64, .f32⟩
  | .local _ .vmem, ⟨27, _⟩ => ⟨S64x64, .f32⟩
  | .local _ .vmem, ⟨28, _⟩ => ⟨S1x256x2048, .f32⟩
  | .local _ .vmem, ⟨29, _⟩ => ⟨S1x256x2048, .f32⟩
  | .local _ .vmem, ⟨30, _⟩ => ⟨S1x256x64, .f32⟩
  | .local _ .vmem, ⟨31, _⟩ => ⟨S1x256x64, .f32⟩
  | .local _ .vmem, ⟨32, _⟩ => ⟨S1x256x64, .f32⟩
  | .local _ .vmem, ⟨33, _⟩ => ⟨S1x256x64, .f32⟩
  | .local _ .vmem, ⟨34, _⟩ => ⟨S1x2048x64, .f32⟩
  | .local _ .vmem, ⟨35, _⟩ => ⟨S1x2048x64, .f32⟩
  | .local _ .vmem, ⟨36, _⟩ => ⟨S1x2048x64, .f32⟩
  | .local _ .vmem, ⟨37, _⟩ => ⟨S1x2048x64, .f32⟩
  | .local _ .vmem, ⟨38, _⟩ => ⟨S1x2048x64, .f32⟩
  | .local _ .vmem, ⟨39, _⟩ => ⟨S1x2048x64, .f32⟩
  | .local _ .vmem, ⟨40, _⟩ => ⟨S1x2048x64, .f32⟩
  | .local _ .vmem, ⟨41, _⟩ => ⟨S1x2048x64, .f32⟩
  | .local _ .vmem, ⟨42, _⟩ => ⟨S1x2048x64, .f32⟩
  | .local _ .vmem, ⟨43, _⟩ => ⟨S1x2048x64, .f32⟩
  | .local _ .vmem, ⟨44, _⟩ => ⟨S1x256x64, .f32⟩
  | .local _ .vmem, ⟨45, _⟩ => ⟨S1x256x64, .f32⟩
  | .local _ .vmem, ⟨46, _⟩ => ⟨S1x64x2048, .f32⟩
  | .local _ .vmem, ⟨47, _⟩ => ⟨S1x64x2048, .f32⟩
  | .local _ .vmem, ⟨48, _⟩ => ⟨S64x128, .f32⟩
  | .local _ .vmem, ⟨49, _⟩ => ⟨S64x128, .f32⟩
  | .local _ .vmem, ⟨50, _⟩ => ⟨S1x256x2048, .f32⟩
  | .local _ .vmem, ⟨51, _⟩ => ⟨S1x256x2048, .f32⟩
  | .local _ .vmem, ⟨52, _⟩ => ⟨S1x256x128, .f32⟩
  | .local _ .vmem, ⟨53, _⟩ => ⟨S1x256x128, .f32⟩
  | .local _ .vmem, ⟨54, _⟩ => ⟨S1x256x128, .f32⟩
  | .local _ .vmem, ⟨55, _⟩ => ⟨S1x256x128, .f32⟩
  | .local _ .vmem, ⟨56, _⟩ => ⟨S1x2048x128, .f32⟩
  | .local _ .vmem, ⟨57, _⟩ => ⟨S1x2048x128, .f32⟩
  | .local _ .vmem, ⟨58, _⟩ => ⟨S1x2048x128, .f32⟩
  | .local _ .vmem, ⟨59, _⟩ => ⟨S1x2048x128, .f32⟩
  | .local _ .vmem, ⟨60, _⟩ => ⟨S1x2048x128, .f32⟩
  | .local _ .vmem, ⟨61, _⟩ => ⟨S1x2048x128, .f32⟩
  | .local _ .vmem, ⟨62, _⟩ => ⟨S1x2048x128, .f32⟩
  | .local _ .vmem, ⟨63, _⟩ => ⟨S1x2048x128, .f32⟩
  | .local _ .vmem, ⟨64, _⟩ => ⟨S1x2048x128, .f32⟩
  | .local _ .vmem, ⟨65, _⟩ => ⟨S1x2048x128, .f32⟩
  | .local _ .vmem, ⟨66, _⟩ => ⟨S1x2048x256, .f32⟩
  | .local _ .vmem, ⟨67, _⟩ => ⟨S1x2048x256, .f32⟩
  | .local _ .vmem, ⟨68, _⟩ => ⟨S256x1024, .f32⟩
  | .local _ .vmem, ⟨69, _⟩ => ⟨S1024, .f32⟩
  | .local _ .vmem, ⟨70, _⟩ => ⟨S1x1x1024, .f32⟩
  | .local _ .vmem, ⟨71, _⟩ => ⟨S1x1x1024, .f32⟩
  | _, _ => ⟨S4x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_values : Ref sig .tc := ⟨.hbm, 24, rfl⟩
abbrev main_indices : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43_0 : Ref sig .tc := ⟨.hbm, 69, rfl⟩
abbrev main_v43_1 : Ref sig .tc := ⟨.hbm, 70, rfl⟩
abbrev main_v43_2 : Ref sig .tc := ⟨.hbm, 71, rfl⟩
abbrev main_values_6 : Ref sig .tc := ⟨.hbm, 72, rfl⟩
abbrev main_indices_7 : Ref sig .tc := ⟨.hbm, 73, rfl⟩
abbrev main_v44 : Ref sig .tc := ⟨.hbm, 74, rfl⟩
abbrev main_v45 : Ref sig .tc := ⟨.hbm, 75, rfl⟩
abbrev main_c_8 : Ref sig .tc := ⟨.hbm, 76, rfl⟩
abbrev main_v46 : Ref sig .tc := ⟨.hbm, 77, rfl⟩
abbrev main_v47 : Ref sig .tc := ⟨.hbm, 78, rfl⟩
abbrev main_c_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79_0 : Ref sig .tc := ⟨.hbm, 117, rfl⟩
abbrev main_v79_1 : Ref sig .tc := ⟨.hbm, 118, rfl⟩
abbrev main_v79_2 : Ref sig .tc := ⟨.hbm, 119, rfl⟩
abbrev main_values_16 : Ref sig .tc := ⟨.hbm, 120, rfl⟩
abbrev main_indices_17 : Ref sig .tc := ⟨.hbm, 121, rfl⟩
abbrev main_v80 : Ref sig .tc := ⟨.hbm, 122, rfl⟩
abbrev main_v81 : Ref sig .tc := ⟨.hbm, 123, rfl⟩
abbrev main_c_18 : Ref sig .tc := ⟨.hbm, 124, rfl⟩
abbrev main_v82 : Ref sig .tc := ⟨.hbm, 125, rfl⟩
abbrev main_v83 : Ref sig .tc := ⟨.hbm, 126, rfl⟩
abbrev main_c_19 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_20 : Ref sig .tc := ⟨.hbm, 131, rfl⟩
abbrev main_v87 : Ref sig .tc := ⟨.hbm, 132, rfl⟩
abbrev main_v88 : Ref sig .tc := ⟨.hbm, 133, rfl⟩
abbrev main_c_21 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_22 : Ref sig .tc := ⟨.hbm, 148, rfl⟩
abbrev main_v102 : Ref sig .tc := ⟨.hbm, 149, rfl⟩
abbrev main_cst_23 : Ref sig .tc := ⟨.hbm, 150, rfl⟩
abbrev main_v103 : Ref sig .tc := ⟨.hbm, 151, rfl⟩
abbrev main_v104 : Ref sig .tc := ⟨.hbm, 152, rfl⟩
abbrev main_cst_24 : Ref sig .tc := ⟨.hbm, 153, rfl⟩
abbrev main_v105 : Ref sig .tc := ⟨.hbm, 154, rfl⟩
abbrev main_cst_25 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc4_stg6_0 : Ref sig .tc := ⟨.vmem, 54, rfl⟩
abbrev cc4_stg6_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg3_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem4_1 : DmaSem sig := 51
abbrev cc4_sem5_0 : DmaSem sig := 52
abbrev cc4_sem5_1 : DmaSem sig := 53
abbrev cc4_sem6_0 : DmaSem sig := 54
abbrev cc4_sem6_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem3_1 : DmaSem sig := 63
abbrev cc5_sem4_0 : DmaSem sig := 64
abbrev cc5_sem4_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem3_1 : DmaSem sig := 71

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x256x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x2048x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![4, 8], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x256x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x64x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x256x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1x256x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨1, ![4], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x2048x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![4], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x2048x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1x1x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]
-- ==== ReferenceIdeal.lean ====
abbrev S4x3x2048 : Shape := ⟨3, ![4, 3, 2048]⟩
abbrev S64x6 : Shape := ⟨2, ![64, 6]⟩
abbrev S64 : Shape := ⟨1, ![64]⟩
abbrev S64x128 : Shape := ⟨2, ![64, 128]⟩
abbrev S128x128 : Shape := ⟨2, ![128, 128]⟩
abbrev S128 : Shape := ⟨1, ![128]⟩
abbrev S1024x256 : Shape := ⟨2, ![1024, 256]⟩
abbrev S1024 : Shape := ⟨1, ![1024]⟩
abbrev S4x2048x2048 : Shape := ⟨3, ![4, 2048, 2048]⟩
abbrev S_ : Shape := ⟨0, ![]⟩
abbrev S4x2048 : Shape := ⟨2, ![4, 2048]⟩
abbrev S4x1x2048 : Shape := ⟨3, ![4, 1, 2048]⟩
abbrev S4x2048x1 : Shape := ⟨3, ![4, 2048, 1]⟩
abbrev S4x2048x80 : Shape := ⟨3, ![4, 2048, 80]⟩
abbrev S4x2048x3 : Shape := ⟨3, ![4, 2048, 3]⟩
abbrev S4 : Shape := ⟨1, ![4]⟩
abbrev S4x1x1 : Shape := ⟨3, ![4, 1, 1]⟩
abbrev S4x2048x80x1 : Shape := ⟨4, ![4, 2048, 80, 1]⟩
abbrev S4x2048x80x2 : Shape := ⟨4, ![4, 2048, 80, 2]⟩
abbrev S4x2048x80x3 : Shape := ⟨4, ![4, 2048, 80, 3]⟩
abbrev S4x2048x1x3 : Shape := ⟨4, ![4, 2048, 1, 3]⟩
abbrev S4x2048x80x6 : Shape := ⟨4, ![4, 2048, 80, 6]⟩
abbrev S4x6x2048x80 : Shape := ⟨4, ![4, 6, 2048, 80]⟩
abbrev S64x4x2048x80 : Shape := ⟨4, ![64, 4, 2048, 80]⟩
abbrev S4x64x2048x80 : Shape := ⟨4, ![4, 64, 2048, 80]⟩
abbrev S4x2x5242880 : Shape := ⟨3, ![4, 2, 5242880]⟩
abbrev S4x2 : Shape := ⟨2, ![4, 2]⟩
abbrev S4x2x1 : Shape := ⟨3, ![4, 2, 1]⟩
abbrev S1x64x1x1 : Shape := ⟨4, ![1, 64, 1, 1]⟩
abbrev S4x64x2048 : Shape := ⟨3, ![4, 64, 2048]⟩
abbrev S4x2048x64 : Shape := ⟨3, ![4, 2048, 64]⟩
abbrev S4x2048x80x64 : Shape := ⟨4, ![4, 2048, 80, 64]⟩
abbrev S4x2048x1x64 : Shape := ⟨4, ![4, 2048, 1, 64]⟩
abbrev S4x2048x80x128 : Shape := ⟨4, ![4, 2048, 80, 128]⟩
abbrev S4x128x2048x80 : Shape := ⟨4, ![4, 128, 2048, 80]⟩
abbrev S128x4x2048x80 : Shape := ⟨4, ![128, 4, 2048, 80]⟩
abbrev S4x2x10485760 : Shape := ⟨3, ![4, 2, 10485760]⟩
abbrev S1x128x1x1 : Shape := ⟨4, ![1, 128, 1, 1]⟩
abbrev S4x128x2048 : Shape := ⟨3, ![4, 128, 2048]⟩
abbrev S4x256x2048 : Shape := ⟨3, ![4, 256, 2048]⟩
abbrev S1024x4x2048 : Shape := ⟨3, ![1024, 4, 2048]⟩
abbrev S4x1024x2048 : Shape := ⟨3, ![4, 1024, 2048]⟩
abbrev S1x1024x1 : Shape := ⟨3, ![1, 1024, 1]⟩
abbrev S4x8x262144 : Shape := ⟨3, ![4, 8, 262144]⟩
abbrev S4x8 : Shape := ⟨2, ![4, 8]⟩
abbrev S4x8x1 : Shape := ⟨3, ![4, 8, 1]⟩
abbrev S4x1024 : Shape := ⟨2, ![4, 1024]⟩

abbrev nBuf : Space → Nat
  | .hbm => 374
  | .vmem => 0
  | .smem => 0
  | _ => 0

abbrev hbmTy0_0 (i : Nat) : BufTy := match i % 128 with
  | 0 => ⟨S4x3x2048, .f32⟩
  | 1 => ⟨S64x6, .f32⟩
  | 2 => ⟨S64, .f32⟩
  | 3 => ⟨S64, .f32⟩
  | 4 => ⟨S64x128, .f32⟩
  | 5 => ⟨S64, .f32⟩
  | 6 => ⟨S64, .f32⟩
  | 7 => ⟨S128x128, .f32⟩
  | 8 => ⟨S128, .f32⟩
  | 9 => ⟨S128, .f32⟩
  | 10 => ⟨S1024x256, .f32⟩
  | 11 => ⟨S1024, .f32⟩
  | 12 => ⟨S1024, .f32⟩
  | 13 => ⟨S1024, .f32⟩
  | 14 => ⟨S4x2048x2048, .f32⟩
  | 15 => ⟨S_, .f32⟩
  | 16 => ⟨S4x2048x2048, .f32⟩
  | 17 => ⟨S4x2048x2048, .f32⟩
  | 18 => ⟨S4x3x2048, .f32⟩
  | 19 => ⟨S_, .f32⟩
  | 20 => ⟨S4x2048, .f32⟩
  | 21 => ⟨S4x1x2048, .f32⟩
  | 22 => ⟨S4x1x2048, .f32⟩
  | 23 => ⟨S4x2048x2048, .f32⟩
  | 24 => ⟨S4x2048x2048, .f32⟩
  | 25 => ⟨S4x2048x1, .f32⟩
  | 26 => ⟨S4x2048x2048, .f32⟩
  | 27 => ⟨S4x2048x2048, .f32⟩
  | 28 => ⟨S4x2048x80, .f32⟩
  | 29 => ⟨S4x2048x80, .i32⟩
  | 30 => ⟨S4x2048x3, .f32⟩
  | 31 => ⟨S4, .i32⟩
  | 32 => ⟨S4x1x1, .i32⟩
  | 33 => ⟨S_, .i32⟩
  | 34 => ⟨S4x1x1, .i32⟩
  | 35 => ⟨S4x1x1, .i1⟩
  | 36 => ⟨S_, .i32⟩
  | 37 => ⟨S4x1x1, .i32⟩
  | 38 => ⟨S4x1x1, .i32⟩
  | 39 => ⟨S4x1x1, .i32⟩
  | 40 => ⟨S_, .i32⟩
  | 41 => ⟨S4x2048x80, .i32⟩
  | 42 => ⟨S4x2048x80, .i1⟩
  | 43 => ⟨S_, .i32⟩
  | 44 => ⟨S4x2048x80, .i32⟩
  | 45 => ⟨S4x2048x80, .i32⟩
  | 46 => ⟨S4x2048x80, .i32⟩
  | 47 => ⟨S4x2048x80, .i32⟩
  | 48 => ⟨S4x2048x80x1, .i32⟩
  | 49 => ⟨S4x2048x80x1, .i32⟩
  | 50 => ⟨S4x2048x80x2, .i32⟩
  | 51 => ⟨S4x2048x80x3, .f32⟩
  | 52 => ⟨S4x2048x1x3, .f32⟩
  | 53 => ⟨S4x2048x80x3, .f32⟩
  | 54 => ⟨S4x2048x80x3, .f32⟩
  | 55 => ⟨S4x2048x80x6, .f32⟩
  | 56 => ⟨S4x6x2048x80, .f32⟩
  | 57 => ⟨S64x4x2048x80, .f32⟩
  | 58 => ⟨S4x64x2048x80, .f32⟩
  | 59 => ⟨S4x2x5242880, .f32⟩
  | 60 => ⟨S_, .f32⟩
  | 61 => ⟨S4x2, .f32⟩
  | 62 => ⟨S4x2x1, .f32⟩
  | 63 => ⟨S_, .f32⟩
  | 64 => ⟨S4x2x1, .f32⟩
  | 65 => ⟨S4x2x1, .f32⟩
  | 66 => ⟨S_, .i32⟩
  | 67 => ⟨S_, .f32⟩
  | 68 => ⟨S4x2, .f32⟩
  | 69 => ⟨S4x2x1, .f32⟩
  | 70 => ⟨S_, .f32⟩
  | 71 => ⟨S4x2x1, .f32⟩
  | 72 => ⟨S4x2x1, .f32⟩
  | 73 => ⟨S4x2x5242880, .f32⟩
  | 74 => ⟨S4x2x5242880, .f32⟩
  | 75 => ⟨S4x2x5242880, .f32⟩
  | 76 => ⟨S_, .f32⟩
  | 77 => ⟨S_, .f32⟩
  | 78 => ⟨S_, .f32⟩
  | 79 => ⟨S_, .f32⟩
  | 80 => ⟨S4x2, .f32⟩
  | 81 => ⟨S4x2x1, .f32⟩
  | 82 => ⟨S4x2x1, .f32⟩
  | 83 => ⟨S4x2x1, .f32⟩
  | 84 => ⟨S_, .f32⟩
  | 85 => ⟨S_, .i1⟩
  | 86 => ⟨S_, .f32⟩
  | 87 => ⟨S_, .f32⟩
  | 88 => ⟨S4x2x1, .f32⟩
  | 89 => ⟨S4x2x1, .f32⟩
  | 90 => ⟨S4x2x5242880, .f32⟩
  | 91 => ⟨S4x2x5242880, .f32⟩
  | 92 => ⟨S_, .f32⟩
  | 93 => ⟨S4x2x1, .f32⟩
  | 94 => ⟨S4x2x1, .f32⟩
  | 95 => ⟨S4x2x1, .f32⟩
  | 96 => ⟨S4x2x5242880, .f32⟩
  | 97 => ⟨S4x2x5242880, .f32⟩
  | 98 => ⟨S4x64x2048x80, .f32⟩
  | 99 => ⟨S1x64x1x1, .f32⟩
  | 100 => ⟨S4x64x2048x80, .f32⟩
  | 101 => ⟨S4x64x2048x80, .f32⟩
  | 102 => ⟨S1x64x1x1, .f32⟩
  | 103 => ⟨S4x64x2048x80, .f32⟩
  | 104 => ⟨S4x64x2048x80, .f32⟩
  | 105 => ⟨S_, .f32⟩
  | 106 => ⟨S_, .f32⟩
  | 107 => ⟨S4x64x2048x80, .f32⟩
  | 108 => ⟨S4x64x2048x80, .i1⟩
  | 109 => ⟨S_, .f32⟩
  | 110 => ⟨S4x64x2048x80, .f32⟩
  | 111 => ⟨S4x64x2048x80, .f32⟩
  | 112 => ⟨S4x64x2048x80, .f32⟩
  | 113 => ⟨S_, .f32⟩
  | 114 => ⟨S4x64x2048, .f32⟩
  | 115 => ⟨S4x2048x2048, .f32⟩
  | 116 => ⟨S_, .f32⟩
  | 117 => ⟨S4x2048x2048, .f32⟩
  | 118 => ⟨S4x2048x2048, .f32⟩
  | 119 => ⟨S4x64x2048, .f32⟩
  | 120 => ⟨S_, .f32⟩
  | 121 => ⟨S4x2048, .f32⟩
  | 122 => ⟨S4x1x2048, .f32⟩
  | 123 => ⟨S4x1x2048, .f32⟩
  | 124 => ⟨S4x2048x2048, .f32⟩
  | 125 => ⟨S4x2048x2048, .f32⟩
  | 126 => ⟨S4x2048x1, .f32⟩
  | 127 => ⟨S4x2048x2048, .f32⟩
  | _ => ⟨S4x3x2048, .f32⟩

abbrev hbmTy0_1 (i : Nat) : BufTy := match i % 128 with
  | 0 => ⟨S4x2048x2048, .f32⟩
  | 1 => ⟨S4x2048x80, .f32⟩
  | 2 => ⟨S4x2048x80, .i32⟩
  | 3 => ⟨S4x2048x64, .f32⟩
  | 4 => ⟨S4, .i32⟩
  | 5 => ⟨S4x1x1, .i32⟩
  | 6 => ⟨S_, .i32⟩
  | 7 => ⟨S4x1x1, .i32⟩
  | 8 => ⟨S4x1x1, .i1⟩
  | 9 => ⟨S_, .i32⟩
  | 10 => ⟨S4x1x1, .i32⟩
  | 11 => ⟨S4x1x1, .i32⟩
  | 12 => ⟨S4x1x1, .i32⟩
  | 13 => ⟨S_, .i32⟩
  | 14 => ⟨S4x2048x80, .i32⟩
  | 15 => ⟨S4x2048x80, .i1⟩
  | 16 => ⟨S_, .i32⟩
  | 17 => ⟨S4x2048x80, .i32⟩
  | 18 => ⟨S4x2048x80, .i32⟩
  | 19 => ⟨S4x2048x80, .i32⟩
  | 20 => ⟨S4x2048x80, .i32⟩
  | 21 => ⟨S4x2048x80x1, .i32⟩
  | 22 => ⟨S4x2048x80x1, .i32⟩
  | 23 => ⟨S4x2048x80x2, .i32⟩
  | 24 => ⟨S4x2048x80x64, .f32⟩
  | 25 => ⟨S4x2048x1x64, .f32⟩
  | 26 => ⟨S4x2048x80x64, .f32⟩
  | 27 => ⟨S4x2048x80x64, .f32⟩
  | 28 => ⟨S4x2048x80x128, .f32⟩
  | 29 => ⟨S4x128x2048x80, .f32⟩
  | 30 => ⟨S64x4x2048x80, .f32⟩
  | 31 => ⟨S4x64x2048x80, .f32⟩
  | 32 => ⟨S4x2x5242880, .f32⟩
  | 33 => ⟨S_, .f32⟩
  | 34 => ⟨S4x2, .f32⟩
  | 35 => ⟨S4x2x1, .f32⟩
  | 36 => ⟨S_, .f32⟩
  | 37 => ⟨S4x2x1, .f32⟩
  | 38 => ⟨S4x2x1, .f32⟩
  | 39 => ⟨S_, .i32⟩
  | 40 => ⟨S_, .f32⟩
  | 41 => ⟨S4x2, .f32⟩
  | 42 => ⟨S4x2x1, .f32⟩
  | 43 => ⟨S_, .f32⟩
  | 44 => ⟨S4x2x1, .f32⟩
  | 45 => ⟨S4x2x1, .f32⟩
  | 46 => ⟨S4x2x5242880, .f32⟩
  | 47 => ⟨S4x2x5242880, .f32⟩
  | 48 => ⟨S4x2x5242880, .f32⟩
  | 49 => ⟨S_, .f32⟩
  | 50 => ⟨S_, .f32⟩
  | 51 => ⟨S_, .f32⟩
  | 52 => ⟨S_, .f32⟩
  | 53 => ⟨S4x2, .f32⟩
  | 54 => ⟨S4x2x1, .f32⟩
  | 55 => ⟨S4x2x1, .f32⟩
  | 56 => ⟨S4x2x1, .f32⟩
  | 57 => ⟨S_, .f32⟩
  | 58 => ⟨S_, .i1⟩
  | 59 => ⟨S_, .f32⟩
  | 60 => ⟨S_, .f32⟩
  | 61 => ⟨S4x2x1, .f32⟩
  | 62 => ⟨S4x2x1, .f32⟩
  | 63 => ⟨S4x2x5242880, .f32⟩
  | 64 => ⟨S4x2x5242880, .f32⟩
  | 65 => ⟨S_, .f32⟩
  | 66 => ⟨S4x2x1, .f32⟩
  | 67 => ⟨S4x2x1, .f32⟩
  | 68 => ⟨S4x2x1, .f32⟩
  | 69 => ⟨S4x2x5242880, .f32⟩
  | 70 => ⟨S4x2x5242880, .f32⟩
  | 71 => ⟨S4x64x2048x80, .f32⟩
  | 72 => ⟨S1x64x1x1, .f32⟩
  | 73 => ⟨S4x64x2048x80, .f32⟩
  | 74 => ⟨S4x64x2048x80, .f32⟩
  | 75 => ⟨S1x64x1x1, .f32⟩
  | 76 => ⟨S4x64x2048x80, .f32⟩
  | 77 => ⟨S4x64x2048x80, .f32⟩
  | 78 => ⟨S_, .f32⟩
  | 79 => ⟨S_, .f32⟩
  | 80 => ⟨S4x64x2048x80, .f32⟩
  | 81 => ⟨S4x64x2048x80, .i1⟩
  | 82 => ⟨S_, .f32⟩
  | 83 => ⟨S4x64x2048x80, .f32⟩
  | 84 => ⟨S4x64x2048x80, .f32⟩
  | 85 => ⟨S4x64x2048x80, .f32⟩
  | 86 => ⟨S_, .f32⟩
  | 87 => ⟨S4x64x2048, .f32⟩
  | 88 => ⟨S4x2048x2048, .f32⟩
  | 89 => ⟨S_, .f32⟩
  | 90 => ⟨S4x2048x2048, .f32⟩
  | 91 => ⟨S4x2048x2048, .f32⟩
  | 92 => ⟨S4x64x2048, .f32⟩
  | 93 => ⟨S_, .f32⟩
  | 94 => ⟨S4x2048, .f32⟩
  | 95 => ⟨S4x1x2048, .f32⟩
  | 96 => ⟨S4x1x2048, .f32⟩
  | 97 => ⟨S4x2048x2048, .f32⟩
  | 98 => ⟨S4x2048x2048, .f32⟩
  | 99 => ⟨S4x2048x1, .f32⟩
  | 100 => ⟨S4x2048x2048, .f32⟩
  | 101 => ⟨S4x2048x2048, .f32⟩
  | 102 => ⟨S4x2048x80, .f32⟩
  | 103 => ⟨S4x2048x80, .i32⟩
  | 104 => ⟨S4x2048x64, .f32⟩
  | 105 => ⟨S4, .i32⟩
  | 106 => ⟨S4x1x1, .i32⟩
  | 107 => ⟨S_, .i32⟩
  | 108 => ⟨S4x1x1, .i32⟩
  | 109 => ⟨S4x1x1, .i1⟩
  | 110 => ⟨S_, .i32⟩
  | 111 => ⟨S4x1x1, .i32⟩
  | 112 => ⟨S4x1x1, .i32⟩
  | 113 => ⟨S4x1x1, .i32⟩
  | 114 => ⟨S_, .i32⟩
  | 115 => ⟨S4x2048x80, .i32⟩
  | 116 => ⟨S4x2048x80, .i1⟩
  | 117 => ⟨S_, .i32⟩
  | 118 => ⟨S4x2048x80, .i32⟩
  | 119 => ⟨S4x2048x80, .i32⟩
  | 120 => ⟨S4x2048x80, .i32⟩
  | 121 => ⟨S4x2048x80, .i32⟩
  | 122 => ⟨S4x2048x80x1, .i32⟩
  | 123 => ⟨S4x2048x80x1, .i32⟩
  | 124 => ⟨S4x2048x80x2, .i32⟩
  | 125 => ⟨S4x2048x80x64, .f32⟩
  | 126 => ⟨S4x2048x1x64, .f32⟩
  | 127 => ⟨S4x2048x80x64, .f32⟩
  | _ => ⟨S4x3x2048, .f32⟩

abbrev hbmTy0_2 (i : Nat) : BufTy := match i % 128 with
  | 0 => ⟨S4x2048x80x64, .f32⟩
  | 1 => ⟨S4x2048x80x128, .f32⟩
  | 2 => ⟨S4x128x2048x80, .f32⟩
  | 3 => ⟨S128x4x2048x80, .f32⟩
  | 4 => ⟨S4x128x2048x80, .f32⟩
  | 5 => ⟨S4x2x10485760, .f32⟩
  | 6 => ⟨S_, .f32⟩
  | 7 => ⟨S4x2, .f32⟩
  | 8 => ⟨S4x2x1, .f32⟩
  | 9 => ⟨S_, .f32⟩
  | 10 => ⟨S4x2x1, .f32⟩
  | 11 => ⟨S4x2x1, .f32⟩
  | 12 => ⟨S_, .i32⟩
  | 13 => ⟨S_, .f32⟩
  | 14 => ⟨S4x2, .f32⟩
  | 15 => ⟨S4x2x1, .f32⟩
  | 16 => ⟨S_, .f32⟩
  | 17 => ⟨S4x2x1, .f32⟩
  | 18 => ⟨S4x2x1, .f32⟩
  | 19 => ⟨S4x2x10485760, .f32⟩
  | 20 => ⟨S4x2x10485760, .f32⟩
  | 21 => ⟨S4x2x10485760, .f32⟩
  | 22 => ⟨S_, .f32⟩
  | 23 => ⟨S_, .f32⟩
  | 24 => ⟨S_, .f32⟩
  | 25 => ⟨S_, .f32⟩
  | 26 => ⟨S4x2, .f32⟩
  | 27 => ⟨S4x2x1, .f32⟩
  | 28 => ⟨S4x2x1, .f32⟩
  | 29 => ⟨S4x2x1, .f32⟩
  | 30 => ⟨S_, .f32⟩
  | 31 => ⟨S_, .i1⟩
  | 32 => ⟨S_, .f32⟩
  | 33 => ⟨S_, .f32⟩
  | 34 => ⟨S4x2x1, .f32⟩
  | 35 => ⟨S4x2x1, .f32⟩
  | 36 => ⟨S4x2x10485760, .f32⟩
  | 37 => ⟨S4x2x10485760, .f32⟩
  | 38 => ⟨S_, .f32⟩
  | 39 => ⟨S4x2x1, .f32⟩
  | 40 => ⟨S4x2x1, .f32⟩
  | 41 => ⟨S4x2x1, .f32⟩
  | 42 => ⟨S4x2x10485760, .f32⟩
  | 43 => ⟨S4x2x10485760, .f32⟩
  | 44 => ⟨S4x128x2048x80, .f32⟩
  | 45 => ⟨S1x128x1x1, .f32⟩
  | 46 => ⟨S4x128x2048x80, .f32⟩
  | 47 => ⟨S4x128x2048x80, .f32⟩
  | 48 => ⟨S1x128x1x1, .f32⟩
  | 49 => ⟨S4x128x2048x80, .f32⟩
  | 50 => ⟨S4x128x2048x80, .f32⟩
  | 51 => ⟨S_, .f32⟩
  | 52 => ⟨S_, .f32⟩
  | 53 => ⟨S4x128x2048x80, .f32⟩
  | 54 => ⟨S4x128x2048x80, .i1⟩
  | 55 => ⟨S_, .f32⟩
  | 56 => ⟨S4x128x2048x80, .f32⟩
  | 57 => ⟨S4x128x2048x80, .f32⟩
  | 58 => ⟨S4x128x2048x80, .f32⟩
  | 59 => ⟨S_, .f32⟩
  | 60 => ⟨S4x128x2048, .f32⟩
  | 61 => ⟨S4x256x2048, .f32⟩
  | 62 => ⟨S1024x4x2048, .f32⟩
  | 63 => ⟨S4x1024x2048, .f32⟩
  | 64 => ⟨S1x1024x1, .f32⟩
  | 65 => ⟨S4x1024x2048, .f32⟩
  | 66 => ⟨S4x1024x2048, .f32⟩
  | 67 => ⟨S4x8x262144, .f32⟩
  | 68 => ⟨S_, .f32⟩
  | 69 => ⟨S4x8, .f32⟩
  | 70 => ⟨S4x8x1, .f32⟩
  | 71 => ⟨S_, .f32⟩
  | 72 => ⟨S4x8x1, .f32⟩
  | 73 => ⟨S4x8x1, .f32⟩
  | 74 => ⟨S_, .i32⟩
  | 75 => ⟨S_, .f32⟩
  | 76 => ⟨S4x8, .f32⟩
  | 77 => ⟨S4x8x1, .f32⟩
  | 78 => ⟨S_, .f32⟩
  | 79 => ⟨S4x8x1, .f32⟩
  | 80 => ⟨S4x8x1, .f32⟩
  | 81 => ⟨S4x8x262144, .f32⟩
  | 82 => ⟨S4x8x262144, .f32⟩
  | 83 => ⟨S4x8x262144, .f32⟩
  | 84 => ⟨S_, .f32⟩
  | 85 => ⟨S_, .f32⟩
  | 86 => ⟨S_, .f32⟩
  | 87 => ⟨S_, .f32⟩
  | 88 => ⟨S4x8, .f32⟩
  | 89 => ⟨S4x8x1, .f32⟩
  | 90 => ⟨S4x8x1, .f32⟩
  | 91 => ⟨S4x8x1, .f32⟩
  | 92 => ⟨S_, .f32⟩
  | 93 => ⟨S_, .i1⟩
  | 94 => ⟨S_, .f32⟩
  | 95 => ⟨S_, .f32⟩
  | 96 => ⟨S4x8x1, .f32⟩
  | 97 => ⟨S4x8x1, .f32⟩
  | 98 => ⟨S4x8x262144, .f32⟩
  | 99 => ⟨S4x8x262144, .f32⟩
  | 100 => ⟨S_, .f32⟩
  | 101 => ⟨S4x8x1, .f32⟩
  | 102 => ⟨S4x8x1, .f32⟩
  | 103 => ⟨S4x8x1, .f32⟩
  | 104 => ⟨S4x8x262144, .f32⟩
  | 105 => ⟨S4x8x262144, .f32⟩
  | 106 => ⟨S4x1024x2048, .f32⟩
  | 107 => ⟨S1x1024x1, .f32⟩
  | 108 => ⟨S4x1024x2048, .f32⟩
  | 109 => ⟨S4x1024x2048, .f32⟩
  | 110 => ⟨S1x1024x1, .f32⟩
  | 111 => ⟨S4x1024x2048, .f32⟩
  | 112 => ⟨S4x1024x2048, .f32⟩
  | 113 => ⟨S_, .f32⟩
  | 114 => ⟨S4x1024x2048, .f32⟩
  | 115 => ⟨S4x1024x2048, .f32⟩
  | 116 => ⟨S_, .f32⟩
  | 117 => ⟨S4x1024, .f32⟩
  | _ => ⟨S4x3x2048, .f32⟩

abbrev hbmTy (i : Nat) : BufTy := match i / 128 with
  | 0 => hbmTy0_0 i
  | 1 => hbmTy0_1 i
  | 2 => hbmTy0_2 i
  | _ => ⟨S4x3x2048, .f32⟩

abbrev bufTy : (tb : Table) → Fin (tcTables nBuf tb) → BufTy
  | .hbm, ⟨i, _⟩ => hbmTy i
  | _, _ => ⟨S4x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_values : Ref sig .tc := ⟨.hbm, 28, rfl⟩
abbrev main_indices : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_c_6 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_v12 : Ref sig .tc := ⟨.hbm, 83, rfl⟩
abbrev main_call0_cst_3 : Ref sig .tc := ⟨.hbm, 84, rfl⟩
abbrev main_call0_v13 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_7 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_8 : Ref sig .tc := ⟨.hbm, 105, rfl⟩
abbrev main_call1_cst : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v57 : Ref sig .tc := ⟨.hbm, 112, rfl⟩
abbrev main_cst_9 : Ref sig .tc := ⟨.hbm, 113, rfl⟩
abbrev main_v58 : Ref sig .tc := ⟨.hbm, 114, rfl⟩
abbrev main_v59 : Ref sig .tc := ⟨.hbm, 115, rfl⟩
abbrev main_cst_10 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_11 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_values_12 : Ref sig .tc := ⟨.hbm, 129, rfl⟩
abbrev main_indices_13 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_c_14 : Ref sig .tc := ⟨.hbm, 134, rfl⟩
abbrev main_v74 : Ref sig .tc := ⟨.hbm, 135, rfl⟩
abbrev main_v75 : Ref sig .tc := ⟨.hbm, 136, rfl⟩
abbrev main_c_15 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_c_16 : Ref sig .tc := ⟨.hbm, 141, rfl⟩
abbrev main_v79 : Ref sig .tc := ⟨.hbm, 142, rfl⟩
abbrev main_v80 : Ref sig .tc := ⟨.hbm, 143, rfl⟩
abbrev main_c_17 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_18 : Ref sig .tc := ⟨.hbm, 161, rfl⟩
abbrev main_v97 : Ref sig .tc := ⟨.hbm, 162, rfl⟩
abbrev main_v98 : Ref sig .tc := ⟨.hbm, 163, rfl⟩
abbrev main_cst_19 : Ref sig .tc := ⟨.hbm, 164, rfl⟩
abbrev main_v99 : Ref sig .tc := ⟨.hbm, 165, rfl⟩
abbrev main_v100 : Ref sig .tc := ⟨.hbm, 166, rfl⟩
abbrev main_c_20 : Ref sig .tc := ⟨.hbm, 167, rfl⟩
abbrev main_call2_cst : Ref sig .tc := ⟨.hbm, 168, rfl⟩
abbrev main_call2_v0 : Ref sig .tc := ⟨.hbm, 169, rfl⟩
abbrev main_call2_v1 : Ref sig .tc := ⟨.hbm, 170, rfl⟩
abbrev main_call2_cst_0 : Ref sig .tc := ⟨.hbm, 171, rfl⟩
abbrev main_call2_v2 : Ref sig .tc := ⟨.hbm, 172, rfl⟩
abbrev main_call2_v3 : Ref sig .tc := ⟨.hbm, 173, rfl⟩
abbrev main_call2_v4 : Ref sig .tc := ⟨.hbm, 174, rfl⟩
abbrev main_call2_v5 : Ref sig .tc := ⟨.hbm, 175, rfl⟩
abbrev main_call2_v6 : Ref sig .tc := ⟨.hbm, 176, rfl⟩
abbrev main_call2_v7 : Ref sig .tc := ⟨.hbm, 177, rfl⟩
abbrev main_call2_cst_1 : Ref sig .tc := ⟨.hbm, 178, rfl⟩
abbrev main_call2_v8 : Ref sig .tc := ⟨.hbm, 179, rfl⟩
abbrev main_call2_cst_2 : Ref sig .tc := ⟨.hbm, 180, rfl⟩
abbrev main_call2_v9 : Ref sig .tc := ⟨.hbm, 181, rfl⟩
abbrev main_call2_v10 : Ref sig .tc := ⟨.hbm, 182, rfl⟩
abbrev main_call2_v11 : Ref sig .tc := ⟨.hbm, 183, rfl⟩
abbrev main_call2_v12 : Ref sig .tc := ⟨.hbm, 184, rfl⟩
abbrev main_call2_cst_3 : Ref sig .tc := ⟨.hbm, 185, rfl⟩
abbrev main_call2_v13 : Ref sig .tc := ⟨.hbm, 186, rfl⟩
abbrev main_call2_cst_4 : Ref sig .tc := ⟨.hbm, 187, rfl⟩
abbrev main_call2_call0_v0 : Ref sig .tc := ⟨.hbm, 188, rfl⟩
abbrev main_call2_call0_v1 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_cst_21 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_cst_22 : Ref sig .tc := ⟨.hbm, 206, rfl⟩
abbrev main_call3_cst : Ref sig .tc := ⟨.hbm, 207, rfl⟩
abbrev main_call3_v0 : Ref sig .tc := ⟨.hbm, 208, rfl⟩
abbrev main_call3_v1 : Ref sig .tc := ⟨.hbm, 209, rfl⟩
abbrev main_call3_v2 : Ref sig .tc := ⟨.hbm, 210, rfl⟩
abbrev main_call3_v3 : Ref sig .tc := ⟨.hbm, 211, rfl⟩
abbrev main_call3_v4 : Ref sig .tc := ⟨.hbm, 212, rfl⟩
abbrev main_v116 : Ref sig .tc := ⟨.hbm, 213, rfl⟩
abbrev main_cst_23 : Ref sig .tc := ⟨.hbm, 214, rfl⟩
abbrev main_v117 : Ref sig .tc := ⟨.hbm, 215, rfl⟩
abbrev main_v118 : Ref sig .tc := ⟨.hbm, 216, rfl⟩
abbrev main_cst_24 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_cst_25 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_values_26 : Ref sig .tc := ⟨.hbm, 230, rfl⟩
abbrev main_indices_27 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_c_28 : Ref sig .tc := ⟨.hbm, 235, rfl⟩
abbrev main_v133 : Ref sig .tc := ⟨.hbm, 236, rfl⟩
abbrev main_v134 : Ref sig .tc := ⟨.hbm, 237, rfl⟩
abbrev main_c_29 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_c_30 : Ref sig .tc := ⟨.hbm, 242, rfl⟩
abbrev main_v138 : Ref sig .tc := ⟨.hbm, 243, rfl⟩
abbrev main_v139 : Ref sig .tc := ⟨.hbm, 244, rfl⟩
abbrev main_c_31 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_cst_32 : Ref sig .tc := ⟨.hbm, 262, rfl⟩
abbrev main_v156 : Ref sig .tc := ⟨.hbm, 263, rfl⟩
abbrev main_v157 : Ref sig .tc := ⟨.hbm, 264, rfl⟩
abbrev main_cst_33 : Ref sig .tc := ⟨.hbm, 265, rfl⟩
abbrev main_v158 : Ref sig .tc := ⟨.hbm, 266, rfl⟩
abbrev main_v159 : Ref sig .tc := ⟨.hbm, 267, rfl⟩
abbrev main_c_34 : Ref sig .tc := ⟨.hbm, 268, rfl⟩
abbrev main_call4_cst : Ref sig .tc := ⟨.hbm, 269, rfl⟩
abbrev main_call4_v0 : Ref sig .tc := ⟨.hbm, 270, rfl⟩
abbrev main_call4_v1 : Ref sig .tc := ⟨.hbm, 271, rfl⟩
abbrev main_call4_cst_0 : Ref sig .tc := ⟨.hbm, 272, rfl⟩
abbrev main_call4_v2 : Ref sig .tc := ⟨.hbm, 273, rfl⟩
abbrev main_call4_v3 : Ref sig .tc := ⟨.hbm, 274, rfl⟩
abbrev main_call4_v4 : Ref sig .tc := ⟨.hbm, 275, rfl⟩
abbrev main_call4_v5 : Ref sig .tc := ⟨.hbm, 276, rfl⟩
abbrev main_call4_v6 : Ref sig .tc := ⟨.hbm, 277, rfl⟩
abbrev main_call4_v7 : Ref sig .tc := ⟨.hbm, 278, rfl⟩
abbrev main_call4_cst_1 : Ref sig .tc := ⟨.hbm, 279, rfl⟩
abbrev main_call4_v8 : Ref sig .tc := ⟨.hbm, 280, rfl⟩
abbrev main_call4_cst_2 : Ref sig .tc := ⟨.hbm, 281, rfl⟩
abbrev main_call4_v9 : Ref sig .tc := ⟨.hbm, 282, rfl⟩
abbrev main_call4_v10 : Ref sig .tc := ⟨.hbm, 283, rfl⟩
abbrev main_call4_v11 : Ref sig .tc := ⟨.hbm, 284, rfl⟩
abbrev main_call4_v12 : Ref sig .tc := ⟨.hbm, 285, rfl⟩
abbrev main_call4_cst_3 : Ref sig .tc := ⟨.hbm, 286, rfl⟩
abbrev main_call4_v13 : Ref sig .tc := ⟨.hbm, 287, rfl⟩
abbrev main_call4_cst_4 : Ref sig .tc := ⟨.hbm, 288, rfl⟩
abbrev main_call4_call0_v0 : Ref sig .tc := ⟨.hbm, 289, rfl⟩
abbrev main_call4_call0_v1 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_cst_35 : Ref sig .tc := ⟨.hbm, 294, rfl⟩
abbrev main_v163 : Ref sig .tc := ⟨.hbm, 295, rfl⟩
abbrev main_v164 : Ref sig .tc := ⟨.hbm, 296, rfl⟩
abbrev main_v165 : Ref sig .tc := ⟨.hbm, 297, rfl⟩
abbrev main_v166 : Ref sig .tc := ⟨.hbm, 298, rfl⟩
abbrev main_v167 : Ref sig .tc := ⟨.hbm, 299, rfl⟩
abbrev main_v168 : Ref sig .tc := ⟨.hbm, 300, rfl⟩
abbrev main_v169 : Ref sig .tc := ⟨.hbm, 301, rfl⟩
abbrev main_v170 : Ref sig .tc := ⟨.hbm, 302, rfl⟩
abbrev main_v171 : Ref sig .tc := ⟨.hbm, 303, rfl⟩
abbrev main_v172 : Ref sig .tc := ⟨.hbm, 304, rfl⟩
abbrev main_v173 : Ref sig .tc := ⟨.hbm, 305, rfl⟩
abbrev main_v174 : Ref sig .tc := ⟨.hbm, 306, rfl⟩
abbrev main_cst_36 : Ref sig .tc := ⟨.hbm, 307, rfl⟩
abbrev main_call5_cst : Ref sig .tc := ⟨.hbm, 308, rfl⟩
abbrev main_call5_v0 : Ref sig .tc := ⟨.hbm, 309, rfl⟩
abbrev main_call5_v1 : Ref sig .tc := ⟨.hbm, 310, rfl⟩
abbrev main_call5_v2 : Ref sig .tc := ⟨.hbm, 311, rfl⟩
abbrev main_call5_v3 : Ref sig .tc := ⟨.hbm, 312, rfl⟩
abbrev main_call5_v4 : Ref sig .tc := ⟨.hbm, 313, rfl⟩
abbrev main_v175 : Ref sig .tc := ⟨.hbm, 314, rfl⟩
abbrev main_cst_37 : Ref sig .tc := ⟨.hbm, 315, rfl⟩
abbrev main_v176 : Ref sig .tc := ⟨.hbm, 316, rfl⟩
abbrev main_v177 : Ref sig .tc := ⟨.hbm, 317, rfl⟩
abbrev main_v178 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_v183 : Ref sig .tc := ⟨.hbm, 323, rfl⟩
abbrev main_cst_38 : Ref sig .tc := ⟨.hbm, 324, rfl⟩
abbrev main_v184 : Ref sig .tc := ⟨.hbm, 325, rfl⟩
abbrev main_v185 : Ref sig .tc := ⟨.hbm, 326, rfl⟩
abbrev main_cst_39 : Ref sig .tc := ⟨.hbm, 327, rfl⟩
abbrev main_v186 : Ref sig .tc := ⟨.hbm, 328, rfl⟩
abbrev main_v187 : Ref sig .tc := ⟨.hbm, 329, rfl⟩
abbrev main_c_40 : Ref sig .tc := ⟨.hbm, 330, rfl⟩
abbrev main_call6_cst : Ref sig .tc := ⟨.hbm, 331, rfl⟩
abbrev main_call6_v0 : Ref sig .tc := ⟨.hbm, 332, rfl⟩
abbrev main_call6_v1 : Ref sig .tc := ⟨.hbm, 333, rfl⟩
abbrev main_call6_cst_0 : Ref sig .tc := ⟨.hbm, 334, rfl⟩
abbrev main_call6_v2 : Ref sig .tc := ⟨.hbm, 335, rfl⟩
abbrev main_call6_v3 : Ref sig .tc := ⟨.hbm, 336, rfl⟩
abbrev main_call6_v4 : Ref sig .tc := ⟨.hbm, 337, rfl⟩
abbrev main_call6_v5 : Ref sig .tc := ⟨.hbm, 338, rfl⟩
abbrev main_call6_v6 : Ref sig .tc := ⟨.hbm, 339, rfl⟩
abbrev main_call6_v7 : Ref sig .tc := ⟨.hbm, 340, rfl⟩
abbrev main_call6_cst_1 : Ref sig .tc := ⟨.hbm, 341, rfl⟩
abbrev main_call6_v8 : Ref sig .tc := ⟨.hbm, 342, rfl⟩
abbrev main_call6_cst_2 : Ref sig .tc := ⟨.hbm, 343, rfl⟩
abbrev main_call6_v9 : Ref sig .tc := ⟨.hbm, 344, rfl⟩
abbrev main_call6_v10 : Ref sig .tc := ⟨.hbm, 345, rfl⟩
abbrev main_call6_v11 : Ref sig .tc := ⟨.hbm, 346, rfl⟩
abbrev main_call6_v12 : Ref sig .tc := ⟨.hbm, 347, rfl⟩
abbrev main_call6_cst_3 : Ref sig .tc := ⟨.hbm, 348, rfl⟩
abbrev main_call6_v13 : Ref sig .tc := ⟨.hbm, 349, rfl⟩
abbrev main_call6_cst_4 : Ref sig .tc := ⟨.hbm, 350, rfl⟩
abbrev main_call6_call0_v0 : Ref sig .tc := ⟨.hbm, 351, rfl⟩
abbrev main_call6_call0_v1 : Ref sig .tc := ⟨.hbm, 352, rfl⟩
abbrev main_v188 : Ref sig .tc := ⟨.hbm, 353, rfl⟩
abbrev main_v189 : Ref sig .tc := ⟨.hbm, 354, rfl⟩
abbrev main_v190 : Ref sig .tc := ⟨.hbm, 355, rfl⟩
abbrev main_cst_41 : Ref sig .tc := ⟨.hbm, 356, rfl⟩
abbrev main_v191 : Ref sig .tc := ⟨.hbm, 357, rfl⟩
abbrev main_v192 : Ref sig .tc := ⟨.hbm, 358, rfl⟩
abbrev main_v193 : Ref sig .tc := ⟨.hbm, 359, rfl⟩
abbrev main_v194 : Ref sig .tc := ⟨.hbm, 360, rfl⟩
abbrev main_v195 : Ref sig .tc := ⟨.hbm, 361, rfl⟩
abbrev main_v196 : Ref sig .tc := ⟨.hbm, 362, rfl⟩
abbrev main_v197 : Ref sig .tc := ⟨.hbm, 363, rfl⟩
abbrev main_v198 : Ref sig .tc := ⟨.hbm, 364, rfl⟩
abbrev main_v199 : Ref sig .tc := ⟨.hbm, 365, rfl⟩
abbrev main_v200 : Ref sig .tc := ⟨.hbm, 366, rfl⟩
abbrev main_v201 : Ref sig .tc := ⟨.hbm, 367, rfl⟩
abbrev main_v202 : Ref sig .tc := ⟨.hbm, 368, rfl⟩
abbrev main_call7_cst : Ref sig .tc := ⟨.hbm, 369, rfl⟩
abbrev main_call7_v0 : Ref sig .tc := ⟨.hbm, 370, rfl⟩
abbrev main_v203 : Ref sig .tc := ⟨.hbm, 371, rfl⟩
abbrev main_cst_42 : Ref sig .tc := ⟨.hbm, 372, rfl⟩
abbrev main_v204 : Ref sig .tc := ⟨.hbm, 373, rfl⟩

abbrev nD : Nat := 1
abbrev τ : Topo := Topo.v7x

variable {F : FTy → Type} [FloatOps F]
-- ==== Proof.ReferenceFrame.lean ====
module

public import proofs.«01_k».proof.Defs
public import proofs.«01_k».proof.Proof.Gen.ReferenceIdeal
public import proofs.«01_k».proof.Proof.Gen.ReferenceIdeal.Run
public import Idealize.ShloMosaic.Lib.Claim
public import Idealize.ShloMosaic.Lib.Quiescent

/-! The reference's frame: its run leaves the arguments as they were, and it has no semaphore. -/

@[expose] public section

noncomputable section

open Idealize.ShloMosaic Idealize.SL.Sem

namespace Cert.Proof

/-- The reference runs to the end, leaves its arguments and ends with every counter at zero. -/
theorem reference_frame : Cert.quiescent_ReferenceIdeal (hReferenceIdeal := Cert.ReferenceIdeal.Gen.facts) :=
  fun m ρ _ => θ_run_mono (Cert.ReferenceIdeal.Value.run m ρ) fun r h =>
    ⟨fun c => (h c).2.2, sem_eq_zero_of_no_sems (by decide) r.2⟩

end Cert.Proof

end
-- ==== Proof.Kern.Gap.lean ====
module

public import proofs.«01_k».proof.Proof.Gen.KernelIdeal.Frame
public import Idealize.ShloMosaic.Lib.Pointwise

/-! The score of a pair of points: minus their squared distance, as both programs spell it. -/

@[expose] public section

set_option maxRecDepth 16384

noncomputable section

open Idealize.ShloMosaic Idealize.ShloMosaic.TcCoe

namespace Cert.Gap
open Cert.KernelIdeal

/-- Minus the squared distance of points `i` and `j`, expanded. -/
def gap {C : ℕ} (p : Fin 2048 → Fin C → EReal) (i j : Fin 2048) : EReal :=
  -(∑ c, p j c * p j c) - Ideal.ofBits .f32 3221225472#32 * (∑ c, p i c * p j c) - ∑ c, p i c * p i c

/-- The array of scores from points by rows and by columns, three coordinates each. -/
def narrow (xt : Vec Ideal S4x2048x3 .f32) (xc : Vec Ideal S4x3x2048 .f32) : Vec Ideal S4x2048x2048 .f32 := fun i =>
  (0 : EReal) - (∑ c : Fin 3, (xc (ix3 (i 0) c (i 2)) : EReal) * xc (ix3 (i 0) c (i 2)))
    - Ideal.ofBits .f32 3221225472#32 * (∑ c : Fin 3, (xt (ix3 (i 0) (i 1) c) : EReal) * xc (ix3 (i 0) c (i 2)))
    - ∑ c : Fin 3, (xt (ix3 (i 0) (i 1) c) : EReal) * xt (ix3 (i 0) (i 1) c)

/-- The same, sixty-four coordinates each. -/
def wide (xt : Vec Ideal S4x2048x64 .f32) (xc : Vec Ideal S4x64x2048 .f32) : Vec Ideal S4x2048x2048 .f32 := fun i =>
  (0 : EReal) - (∑ c : Fin 64, (xc (ix3 (i 0) c (i 2)) : EReal) * xc (ix3 (i 0) c (i 2)))
    - Ideal.ofBits .f32 3221225472#32 * (∑ c : Fin 64, (xt (ix3 (i 0) (i 1) c) : EReal) * xc (ix3 (i 0) c (i 2)))
    - ∑ c : Fin 64, (xt (ix3 (i 0) (i 1) c) : EReal) * xt (ix3 (i 0) (i 1) c)

theorem narrow_at (xt : Vec Ideal S4x2048x3 .f32) (xc : Vec Ideal S4x3x2048 .f32)
    (x : Fin 4 → Fin 2048 → Fin 3 → EReal) (hr : ∀ b n k, xt (ix3 b n k) = x b n k)
    (hc : ∀ b n k, xc (ix3 b k n) = x b n k) (b : Fin 4) (i j : Fin 2048) :
    narrow xt xc (ix3 b i j) = gap (x b) i j := by
  simp only [narrow, gap, hr, hc, zero_sub, ix3_0, ix3_1, ix3_2]

theorem wide_at (xt : Vec Ideal S4x2048x64 .f32) (xc : Vec Ideal S4x64x2048 .f32)
    (x : Fin 4 → Fin 2048 → Fin 64 → EReal) (hr : ∀ b n k, xt (ix3 b n k) = x b n k)
    (hc : ∀ b n k, xc (ix3 b k n) = x b n k) (b : Fin 4) (i j : Fin 2048) :
    wide xt xc (ix3 b i j) = gap (x b) i j := by
  simp only [wide, gap, hr, hc, zero_sub, ix3_0, ix3_1, ix3_2]

end Cert.Gap
-- ==== Proof.Kern.Dist1.lean ====
module

public import proofs.«01_k».proof.Proof.Kern.Gap
public import Idealize.ShloMosaic.Lib.Tactic.CleanTypes
public import Idealize.ShloMosaic.Lib.Pipeline.ValueKit

/-! What distance pass 1 leaves: the score of every pair of points. -/

@[expose] public section

set_option maxRecDepth 16384

noncomputable section

open Idealize.ShloMosaic Idealize.ShloMosaic.TcCoe

namespace Cert.Dist1
open Cert.KernelIdeal Cert.KernelIdeal.Gen Cert.Gap

variable (V : (c : Dev nD) → (b : Ref sig .tc) → Buf (Elt Ideal) ((c : Thread nD τ).loc b))

/-- The blocks a grid point reads and writes: batch and row block. -/
theorem idx : ∀ t : Fin grid0.N, win0_0.index t = ![(grid0.coords t 0).val, (grid0.coords t 1).val, 0]
    ∧ win0_1.index t = ![(grid0.coords t 0).val, 0, 0]
    ∧ win0_4.index t = ![(grid0.coords t 0).val, (grid0.coords t 1).val, 0] := by decide +kernel

/-- One block of scores is that block of the array. -/
theorem point (c : Dev nD) (t : Fin cfg0.N) (y : S1x256x2048.Idx) :
    k0_pay3 (iblk0 V c 0 t) (iblk0 V c 1 t) y =
      narrow (V c main_v0) (V c main_arg0) (((View.whole main_v7_0).slice (win0_4.rect t)).emb y) := by
  clean_types
  pointwise [k0_pay3, k0_pay2, narrow]
  blk_point [iblk0, idx t]

/-- The whole array of scores. -/
theorem region (c : Dev nD) : (dat0 V c).arrAt 4 cfg0.N = narrow (V c main_v0) (V c main_arg0) := by
  refine (dat0 V c).arrAt_eq_of_covers 4 _ (by decide +kernel) fun t hf y => ?_
  blk_simp
  rw [after0_4]
  frame_out
  exact point V c t y

end Cert.Dist1
-- ==== Proof.Real.Consts.lean ====
module

public import Idealize.ShloMosaic.Lib.Claim
public import Idealize.ShloMosaic.Lib.Pointwise

/-! The float literals the two programs use, as real numbers. -/

@[expose] public section

noncomputable section

open Idealize.ShloMosaic

namespace Cert.Consts

/-- The stabiliser under the root: a positive real number. -/
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The slope below zero: a nonnegative real number. -/
theorem slope_nonneg : ∃ e : ℝ, 0 ≤ e ∧ Ideal.ofBits .f32 0x3E4CCCCD#32 = (e : EReal) := by
  refine ⟨13421773 * (2 : ℝ) ^ (-26 : ℤ), by positivity, ?_⟩
  simp [Ideal.ofBits, Ideal.ieee, -EReal.coe_mul]

/-- The number the variance is stabilised with. -/
def eps : ℝ := eps_pos.choose

theorem eps_gt : 0 < eps := eps_pos.choose_spec.1

theorem ofBits_eps : Ideal.ofBits .f32 0x3727C5AC#32 = (eps : EReal) := eps_pos.choose_spec.2

/-- The slope of the activation below zero. -/
def slope : ℝ := slope_nonneg.choose

theorem slope_ge : 0 ≤ slope := slope_nonneg.choose_spec.1

theorem ofBits_slope : Ideal.ofBits .f32 0x3E4CCCCD#32 = (slope : EReal) := slope_nonneg.choose_spec.2

theorem ofBits_cnt64 : Ideal.ofBits .f32 0x4AA00000#32 = ((5242880 : ℝ) : EReal) := by
  simp [Ideal.ofBits, Ideal.ieee, -EReal.coe_mul]
  norm_num

theorem ofBits_cnt128 : Ideal.ofBits .f32 0x4B200000#32 = ((10485760 : ℝ) : EReal) := by
  simp [Ideal.ofBits, Ideal.ieee, -EReal.coe_mul]

theorem ofBits_cntMlp : Ideal.ofBits .f32 0x48800000#32 = ((262144 : ℝ) : EReal) := by
  simp [Ideal.ofBits, Ideal.ieee, -EReal.coe_mul]
  norm_num

theorem ofBits_negInf : Ideal.ofBits .f32 0xFF800000#32 = (⊥ : EReal) := by
  simp [Ideal.ofBits, Ideal.ieee]

theorem ofBits_inf : Ideal.ofBits .f32 0x7F800000#32 = (⊤ : EReal) := by
  simp [Ideal.ofBits, Ideal.ieee]

/-- The integer zero as a float. -/
theorem sitofp_zero : (FloatOps.sitofp (F := Ideal) .f32 (0#32) : EReal) = 0 := by
  show (((0#32 : BitVec 32).toInt : ℝ) : EReal) = 0
  simp

end Cert.Consts
-- ==== Proof.Real.Norm.lean ====
module

public import proofs.«01_k».proof.Proof.Real.Consts

/-! The normalisation over the reals: mean, variance, the activation, and how it passes a maximum. -/

@[expose] public section

noncomputable section

open Idealize.ShloMosaic

namespace Cert.RealNorm
open Cert.Consts

variable {α : Type} [Fintype α]

/-- The mean of a family, the count given as a number. -/
def mean (c : ℝ) (f : α → ℝ) : ℝ := (∑ i, f i) / c

/-- The variance of a family, the count given as a number. -/
def var (c : ℝ) (f : α → ℝ) : ℝ := (∑ i, (f i - mean c f) * (f i - mean c f)) / c

/-- The stabilised standard deviation. -/
def dev (c : ℝ) (f : α → ℝ) : ℝ := Real.sqrt (var c f + eps)

theorem var_nonneg {c : ℝ} (hc : 0 < c) (f : α → ℝ) : 0 ≤ var c f :=
  div_nonneg (Finset.sum_nonneg fun _ _ => mul_self_nonneg _) hc.le

theorem dev_pos {c : ℝ} (hc : 0 < c) (f : α → ℝ) : 0 < dev c f :=
  Real.sqrt_pos.2 (add_pos_of_nonneg_of_pos (var_nonneg hc f) eps_gt)

/-- The second moment less the squared mean is the variance, the count being the family's size. -/
theorem moment_eq_var {c : ℝ} (hc : 0 < c) (hcard : (Fintype.card α : ℝ) = c) (f : α → ℝ) :
    (∑ i, f i * f i) / c - mean c f * mean c f = var c f := by
  have h : ∑ i, (f i - mean c f) * (f i - mean c f)
      = (∑ i, f i * f i) - 2 * mean c f * (∑ i, f i) + c * (mean c f * mean c f) := by
    have : ∀ i, (f i - mean c f) * (f i - mean c f)
        = f i * f i - 2 * mean c f * f i + mean c f * mean c f := fun i => by ring
    simp only [this, Finset.sum_add_distrib, Finset.sum_sub_distrib, ← Finset.mul_sum,
      Finset.sum_const, Finset.card_univ, nsmul_eq_mul, hcard]
    ring
  have hm : (∑ i, f i) = c * mean c f := by
    unfold mean; field_simp
  rw [var, h, hm]
  field_simp
  ring

/-- Statistics do not see how the family is indexed. -/
theorem mean_equiv {β : Type} [Fintype β] (e : β ≃ α) (c : ℝ) (f : α → ℝ) : mean c (fun i => f (e i)) = mean c f := by
  unfold mean; rw [Equiv.sum_comp e f]

theorem var_equiv {β : Type} [Fintype β] (e : β ≃ α) (c : ℝ) (f : α → ℝ) : var c (fun i => f (e i)) = var c f := by
  unfold var
  rw [mean_equiv e c f, Equiv.sum_comp e fun i => (f i - mean c f) * (f i - mean c f)]

theorem dev_equiv {β : Type} [Fintype β] (e : β ≃ α) (c : ℝ) (f : α → ℝ) : dev c (fun i => f (e i)) = dev c f := by
  unfold dev; rw [var_equiv]

/-- The activation: the identity from zero up, a gentle slope below. -/
def leaky (y : ℝ) : ℝ := if 0 ≤ y then y else slope * y

theorem leaky_mono : Monotone leaky := by
  intro a b hab
  have hs := slope_ge
  unfold leaky
  split_ifs with ha hb hb
  · exact hab
  · exact absurd (ha.trans hab) hb
  · exact (mul_nonpos_of_nonneg_of_nonpos hs (le_of_not_ge ha)).trans hb
  · exact mul_le_mul_of_nonneg_left hab hs

/-- The largest member of a family over a positive number of indices. -/
def top {K : ℕ} [NeZero K] (f : Fin K → ℝ) : ℝ := Finset.univ.sup' Finset.univ_nonempty f

/-- The largest member passes a monotone map. -/
theorem top_mono {K : ℕ} [NeZero K] {g : ℝ → ℝ} (hg : Monotone g) (f : Fin K → ℝ) :
    top (fun k => g (f k)) = g (top f) := by
  unfold top
  exact (Finset.comp_sup'_eq_sup'_comp (f := f) _ g fun x y => hg.map_max).symm

/-- Shifting and scaling by a positive number is monotone. -/
theorem affine_mono (μ : ℝ) {s : ℝ} (hs : 0 < s) : Monotone fun y : ℝ => (y - μ) / s := by
  intro a b hab
  exact div_le_div_of_nonneg_right (sub_le_sub_right hab μ) hs.le

/-! ### In the extended reals -/

theorem coe_sum (f : α → ℝ) : ∑ i, ((f i : ℝ) : EReal) = ((∑ i, f i : ℝ) : EReal) := by
  classical
  induction (Finset.univ : Finset α) using Finset.induction_on with
  | empty => simp
  | insert a s ha ih => rw [Finset.sum_insert ha, Finset.sum_insert ha, ih, EReal.coe_add]

theorem fold_max_coe {K : ℕ} [NeZero K] (f : Fin K → ℝ) :
    Finset.univ.fold max (⊥ : EReal) (fun k => ((f k : ℝ) : EReal)) = ((top f : ℝ) : EReal) := by
  have h := Finset.comp_sup'_eq_sup'_comp (s := Finset.univ) (H := Finset.univ_nonempty) (f := f)
    (g := fun y : ℝ => (y : EReal)) (fun x y => EReal.coe_strictMono.monotone.map_max)
  unfold top
  rw [h, Finset.sup'_eq_sup]
  rfl

theorem div_coe_coe (s : ℝ) {c : ℝ} (hc : c ≠ 0) : Ideal.div (s : EReal) (c : EReal) = ((s / c : ℝ) : EReal) := by
  rw [Ideal.div_coe hc, ← EReal.coe_mul, mul_one_div]

theorem sqrt_coe {v : ℝ} (hv : 0 ≤ v) : Ideal.sqrt (v : EReal) = ((Real.sqrt v : ℝ) : EReal) := by
  show (if v < 0 then ⊥ else ((Real.sqrt v : ℝ) : EReal)) = _
  rw [if_neg (not_lt.2 hv)]

theorem rsqrt_coe {v : ℝ} (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.2 hv.le), if_neg hv.ne']

end Cert.RealNorm
-- ==== Proof.Real.Group.lean ====
module

public import proofs.«01_k».proof.Proof.Real.Norm

/-! Channel groups: which channels a group has, its statistics over all of its entries, and the two
   ways the programs run through them, as one long row or axis by axis. -/

@[expose] public section

noncomputable section

open Idealize.ShloMosaic

namespace Cert.RealNorm
open Cert.Consts

variable {G P O N K M : ℕ}

/-- The channel at place `p` of group `g`, the groups being consecutive runs of `P` channels. -/
def member (hO : G * P = O) (g : Fin G) (p : Fin P) : Fin O :=
  ⟨g.val * P + p.val, by
    have h1 : (g.val + 1) * P ≤ G * P := Nat.mul_le_mul_right P g.isLt
    have h2 := p.isLt
    rw [Nat.add_mul] at h1
    omega⟩

/-- The group a channel belongs to. -/
def home (hO : G * P = O) (o : Fin O) : Fin G :=
  ⟨o.val / P, Nat.div_lt_of_lt_mul (by rw [Nat.mul_comm, hO]; exact o.isLt)⟩

/-- A group's entries over two further axes. -/
def grp (hO : G * P = O) (h : Fin N → Fin K → Fin O → ℝ) (g : Fin G) : Fin P × Fin N × Fin K → ℝ :=
  fun q => h q.2.1 q.2.2 (member hO g q.1)

/-- A group's entries over one further axis. -/
def grpRow (hO : G * P = O) (y : Fin N → Fin O → ℝ) (g : Fin G) : Fin P × Fin N → ℝ :=
  fun q => y q.2 (member hO g q.1)

/-- One edge layer: the largest neighbour value, normalised by its group's statistics, through the activation. -/
def layer [NeZero K] (hO : G * P = O) (c : ℝ) (h : Fin N → Fin K → Fin O → ℝ) (n : Fin N) (o : Fin O) : ℝ :=
  leaky ((top (fun k => h n k o) - mean c (grp hO h (home hO o))) / dev c (grp hO h (home hO o)))

/-- The last layer: the largest value over the points, normalised by its group's statistics, cut at zero. -/
def head [NeZero N] (hO : G * P = O) (c : ℝ) (y : Fin N → Fin O → ℝ) (o : Fin O) : ℝ :=
  max ((top (fun n => y n o) - mean c (grpRow hO y (home hO o))) / dev c (grpRow hO y (home hO o))) 0

/-- One long row read as two axes, the last running fastest. -/
def rows2 (hM : P * N = M) : Fin M ≃ Fin P × Fin N := (finCongr hM.symm).trans finProdFinEquiv.symm

/-- One long row read as three axes, the last running fastest. -/
def rows3 (hM : P * (N * K) = M) : Fin M ≃ Fin P × Fin N × Fin K :=
  (rows2 hM).trans ((Equiv.refl _).prodCongr finProdFinEquiv.symm)

theorem rows2_fst (hM : P * N = M) (x : Fin M) : ((rows2 hM x).1 : ℕ) = x.val / N := rfl
theorem rows2_snd (hM : P * N = M) (x : Fin M) : ((rows2 hM x).2 : ℕ) = x.val % N := rfl
theorem rows3_fst (hM : P * (N * K) = M) (x : Fin M) : ((rows3 hM x).1 : ℕ) = x.val / (N * K) := rfl
theorem rows3_mid (hM : P * (N * K) = M) (x : Fin M) : ((rows3 hM x).2.1 : ℕ) = x.val % (N * K) / K := rfl
theorem rows3_lst (hM : P * (N * K) = M) (x : Fin M) : ((rows3 hM x).2.2 : ℕ) = x.val % (N * K) % K := rfl

/-- A group's entries as one long row. -/
def flat (hO : G * P = O) (hM : P * (N * K) = M) (h : Fin N → Fin K → Fin O → ℝ) (g : Fin G) : Fin M → ℝ :=
  fun x => grp hO h g (rows3 hM x)

/-- A group's entries over one further axis as one long row. -/
def flatRow (hO : G * P = O) (hM : P * N = M) (y : Fin N → Fin O → ℝ) (g : Fin G) : Fin M → ℝ :=
  fun x => grpRow hO y g (rows2 hM x)

theorem flat_eq (hO : G * P = O) (hM : P * (N * K) = M) (h : Fin N → Fin K → Fin O → ℝ) (g : Fin G) (x : Fin M)
    {n : Fin N} {k : Fin K} {o : Fin O} (hn : n.val = x.val / K % N) (hk : k.val = x.val % K)
    (ho : o.val = g.val * P + x.val / (N * K)) : h n k o = flat hO hM h g x := by
  have e1 : n = (rows3 hM x).2.1 := Fin.ext (by rw [hn, rows3_mid, Nat.mod_mul_left_div_self])
  have e2 : k = (rows3 hM x).2.2 := Fin.ext (by rw [hk, rows3_lst, Nat.mod_mul_left_mod])
  have e3 : o = member hO g (rows3 hM x).1 := Fin.ext (by rw [ho]; rfl)
  rw [e1, e2, e3]; rfl

theorem flatRow_eq (hO : G * P = O) (hM : P * N = M) (y : Fin N → Fin O → ℝ) (g : Fin G) (x : Fin M)
    {n : Fin N} {o : Fin O} (hn : n.val = x.val % N) (ho : o.val = g.val * P + x.val / N) : y n o = flatRow hO hM y g x := by
  have e1 : n = (rows2 hM x).2 := Fin.ext (by rw [hn, rows2_snd])
  have e3 : o = member hO g (rows2 hM x).1 := Fin.ext (by rw [ho]; rfl)
  rw [e1, e3]; rfl

theorem mean_flat (hO : G * P = O) (hM : P * (N * K) = M) (c : ℝ) (h : Fin N → Fin K → Fin O → ℝ) (g : Fin G) :
    mean c (flat hO hM h g) = mean c (grp hO h g) := mean_equiv (rows3 hM) c (grp hO h g)

theorem dev_flat (hO : G * P = O) (hM : P * (N * K) = M) (c : ℝ) (h : Fin N → Fin K → Fin O → ℝ) (g : Fin G) :
    dev c (flat hO hM h g) = dev c (grp hO h g) := dev_equiv (rows3 hM) c (grp hO h g)

theorem mean_flatRow (hO : G * P = O) (hM : P * N = M) (c : ℝ) (y : Fin N → Fin O → ℝ) (g : Fin G) :
    mean c (flatRow hO hM y g) = mean c (grpRow hO y g) := mean_equiv (rows2 hM) c (grpRow hO y g)

theorem dev_flatRow (hO : G * P = O) (hM : P * N = M) (c : ℝ) (y : Fin N → Fin O → ℝ) (g : Fin G) :
    dev c (flatRow hO hM y g) = dev c (grpRow hO y g) := dev_equiv (rows2 hM) c (grpRow hO y g)

end Cert.RealNorm
-- ==== Proof.Real.Extended.lean ====
module

public import proofs.«01_k».proof.Proof.Real.Group

/-! The normalisation as the programs compute it in the extended reals, on finite entries: the two-pass
   form (mean, then mean squared deviation, then a division by the root) and the one-pass form (first and
   second moments, then a multiplication by the reciprocal root) both give the real numbers of `Real/Norm`. -/

@[expose] public section

noncomputable section

open Idealize.ShloMosaic

namespace Cert.RealNorm
open Cert.Consts

variable {ι : Type} [Fintype ι]

theorem mean_ext (u : ι → ℝ) {c : ℝ} (hc : 0 < c) :
    Ideal.div (∑ x, ((u x : ℝ) : EReal)) (c : EReal) = ((mean c u : ℝ) : EReal) := by
  rw [coe_sum, div_coe_coe _ hc.ne']; rfl

theorem dev_ext (u : ι → ℝ) {c : ℝ} (hc : 0 < c) :
    Ideal.sqrt (Ideal.div (∑ x, (((u x : ℝ) : EReal) - ((mean c u : ℝ) : EReal)) * (((u x : ℝ) : EReal) - ((mean c u : ℝ) : EReal)))
      (c : EReal) + (eps : EReal)) = ((dev c u : ℝ) : EReal) := by
  simp only [← EReal.coe_sub, ← EReal.coe_mul]
  rw [coe_sum, div_coe_coe _ hc.ne', ← EReal.coe_add, sqrt_coe]
  · rfl
  · exact (add_pos_of_nonneg_of_pos (var_nonneg hc u) eps_gt).le

/-- The reference takes the variance where its count, less a correction of zero, is positive: it is. -/
theorem guard_ext {c : ℝ} (hc : 0 < c) {α : Type} (a b : α) : (if (0 : EReal) < (c : EReal) then a else b) = a :=
  if_pos (EReal.coe_pos.2 hc)

/-- The normalised value, scaled by one and shifted by zero. -/
theorem unit_ext (y m : ℝ) {s : ℝ} (hs : s ≠ 0) :
    Ideal.div ((y : EReal) - (m : EReal)) (s : EReal) * 1 + 0 = (((y - m) / s : ℝ) : EReal) := by
  rw [mul_one, add_zero, ← EReal.coe_sub, div_coe_coe _ hs]

theorem leaky_ext (v : ℝ) : (if (0 : EReal) ≤ (v : EReal) then (v : EReal) else (slope : EReal) * (v : EReal)) = ((leaky v : ℝ) : EReal) := by
  unfold leaky
  by_cases h : 0 ≤ v
  · rw [if_pos (EReal.coe_nonneg.2 h), if_pos h]
  · rw [if_neg (fun h' => h (EReal.coe_nonneg.1 h')), if_neg h, EReal.coe_mul]

theorem relu_ext (v : ℝ) : max (v : EReal) 0 = ((max v 0 : ℝ) : EReal) := by
  rw [EReal.coe_strictMono.monotone.map_max]; rfl

/-- The largest of the activated values is the activation of the largest. -/
theorem fold_leaky {K : ℕ} [NeZero K] (f : Fin K → ℝ) (m : ℝ) {s : ℝ} (hs : 0 < s) :
    Finset.univ.fold max (⊥ : EReal) (fun k => ((leaky ((f k - m) / s) : ℝ) : EReal)) = ((leaky ((top f - m) / s) : ℝ) : EReal) := by
  rw [fold_max_coe, top_mono (g := fun y => leaky ((y - m) / s)) (leaky_mono.comp (affine_mono m hs))]

theorem fold_relu {K : ℕ} [NeZero K] (f : Fin K → ℝ) (m : ℝ) {s : ℝ} (hs : 0 < s) :
    Finset.univ.fold max (⊥ : EReal) (fun k => ((max ((f k - m) / s) 0 : ℝ) : EReal)) = ((max ((top f - m) / s) 0 : ℝ) : EReal) := by
  rw [fold_max_coe, top_mono (g := fun y => max ((y - m) / s) 0)]
  intro a b hab
  exact max_le_max (affine_mono m hs hab) le_rfl

/-! ### One pass -/

/-- The reciprocal root of the one-pass variance. -/
theorem scale_ext (u : ι → ℝ) {c : ℝ} (hc : 0 < c) (hcard : (Fintype.card ι : ℝ) = c) :
    Ideal.rsqrt (Ideal.div (∑ x, ((u x : ℝ) : EReal) * ((u x : ℝ) : EReal)) (c : EReal)
      - ((mean c u : ℝ) : EReal) * ((mean c u : ℝ) : EReal) + (eps : EReal)) = (((dev c u)⁻¹ : ℝ) : EReal) := by
  simp only [← EReal.coe_mul]
  rw [coe_sum, div_coe_coe _ hc.ne', ← EReal.coe_sub, ← EReal.coe_add, moment_eq_var hc hcard, rsqrt_coe]
  · rfl
  · exact add_pos_of_nonneg_of_pos (var_nonneg hc u) eps_gt

theorem shift_scale_ext (y m s : ℝ) :
    ((y : EReal) - (m : EReal)) * ((s⁻¹ : ℝ) : EReal) = (((y - m) / s : ℝ) : EReal) := by
  rw [← EReal.coe_sub, ← EReal.coe_mul, div_eq_mul_inv]

/-- Sums over two or three axes, one after the other. -/
theorem sum_three {A B C : Type} [Fintype A] [Fintype B] [Fintype C] (f : A × B × C → EReal) :
    ∑ q, f q = ∑ a, ∑ b, ∑ c, f (a, b, c) := by
  simp only [Fintype.sum_prod_type]

theorem sum_two {A B : Type} [Fintype A] [Fintype B] (f : A × B → EReal) : ∑ q, f q = ∑ a, ∑ b, f (a, b) := by
  simp only [Fintype.sum_prod_type]

end Cert.RealNorm
-- ==== Proof.Real.Pass.lean ====
module

public import proofs.«01_k».proof.Proof.Real.Extended
public import proofs.«01_k».proof.Proof.Real.Group
public import Idealize.ShloMosaic.Lib.WordCmp

/-! The statistics of a group gathered in one pass: per-channel sums first, then over the channels of the
   group; and the choice of a channel's group by comparing its number with the groups' bounds. -/

@[expose] public section

noncomputable section

open Idealize.ShloMosaic

namespace Cert.RealNorm
open Cert.Consts

variable {G P O N K : ℕ}

/-- The mean from per-channel sums over two axes. -/
theorem pass_mean (hO : G * P = O) (h : Fin N → Fin K → Fin O → ℝ) (g : Fin G) {c : ℝ} (hc : 0 < c)
    (v : Fin P → EReal) (hv : ∀ p, v p = ∑ n, ∑ k, ((h n k (member hO g p) : ℝ) : EReal)) :
    Ideal.div (∑ p, v p) (c : EReal) = ((mean c (grp hO h g) : ℝ) : EReal) := by
  rw [← mean_ext (grp hO h g) hc, sum_three]
  simp only [hv, grp]

/-- The reciprocal deviation from per-channel sums and sums of squares over two axes. -/
theorem pass_scale (hO : G * P = O) (h : Fin N → Fin K → Fin O → ℝ) (g : Fin G) {c : ℝ} (hc : 0 < c)
    (hcard : ((P * (N * K) : ℕ) : ℝ) = c)
    (w : Fin P → EReal) (m : EReal) (hm : m = ((mean c (grp hO h g) : ℝ) : EReal))
    (hw : ∀ p, w p = ∑ n, ∑ k, ((h n k (member hO g p) : ℝ) : EReal) * ((h n k (member hO g p) : ℝ) : EReal)) :
    Ideal.rsqrt (Ideal.div (∑ p, w p) (c : EReal) - m * m + (eps : EReal)) = (((dev c (grp hO h g))⁻¹ : ℝ) : EReal) := by
  rw [← scale_ext (grp hO h g) hc (by rw [← hcard]; simp), sum_three, hm]
  simp only [hw, grp]

/-- The mean from per-channel sums over one axis. -/
theorem passRow_mean (hO : G * P = O) (y : Fin N → Fin O → ℝ) (g : Fin G) {c : ℝ} (hc : 0 < c)
    (v : Fin P → EReal) (hv : ∀ p, v p = ∑ n, ((y n (member hO g p) : ℝ) : EReal)) :
    Ideal.div (∑ p, v p) (c : EReal) = ((mean c (grpRow hO y g) : ℝ) : EReal) := by
  rw [← mean_ext (grpRow hO y g) hc, sum_two]
  simp only [hv, grpRow]

/-- The reciprocal deviation from per-channel sums and sums of squares over one axis. -/
theorem passRow_scale (hO : G * P = O) (y : Fin N → Fin O → ℝ) (g : Fin G) {c : ℝ} (hc : 0 < c)
    (hcard : ((P * N : ℕ) : ℝ) = c)
    (w : Fin P → EReal) (m : EReal) (hm : m = ((mean c (grpRow hO y g) : ℝ) : EReal))
    (hw : ∀ p, w p = ∑ n, ((y n (member hO g p) : ℝ) : EReal) * ((y n (member hO g p) : ℝ) : EReal)) :
    Ideal.rsqrt (Ideal.div (∑ p, w p) (c : EReal) - m * m + (eps : EReal)) = (((dev c (grpRow hO y g))⁻¹ : ℝ) : EReal) := by
  rw [← scale_ext (grpRow hO y g) hc (by rw [← hcard]; simp), sum_two, hm]
  simp only [hw, grpRow]

/-- The bit that says a channel number lies within a group's bounds picks between two values. -/
theorem within {α : Type} (o a b : ℕ) (x y : α) (ho : o < 2 ^ 31) (ha : a < 2 ^ 31) (hb : b < 2 ^ 31) :
    Scalar.select (IntOp.andi (IntOp.cmpi .sge (BitVec.ofNat 32 o) (BitVec.ofNat 32 a))
      (IntOp.cmpi .slt (BitVec.ofNat 32 o) (BitVec.ofNat 32 b))) x y = if a ≤ o ∧ o < b then x else y := by
  rw [WordCmp.cmpi_sge_ofNat ho ha, WordCmp.cmpi_slt_ofNat ho hb, WordCmp.andi_ofBool, WordCmp.select_ofBool]
  simp only [Bool.and_eq_true, decide_eq_true_eq]

/-- Being within a group's bounds is being in that group. -/
theorem home_iff (hO : G * P = O) (o : Fin O) (g : Fin G) : (g.val * P ≤ o.val ∧ o.val < g.val * P + P) ↔ home hO o = g := by
  constructor
  · rintro ⟨h1, h2⟩
    refine Fin.ext ?_
    show o.val / P = g.val
    have hP : 0 < P := by omega
    exact (Nat.div_eq_iff hP).2 ⟨by omega, by omega⟩
  · rintro rfl
    have hP : 0 < P := by
      rcases Nat.eq_zero_or_pos P with h | h
      · subst h; have := o.isLt; omega
      · exact h
    show o.val / P * P ≤ o.val ∧ o.val < o.val / P * P + P
    have := Nat.div_add_mod' o.val P
    have := Nat.mod_lt o.val hP
    omega

end Cert.RealNorm
-- ==== Proof.Kern.Finish64.lean ====
module

public import proofs.«01_k».proof.Proof.Gen.KernelIdeal.Frame
public import proofs.«01_k».proof.Proof.Real.Pass
public import Idealize.ShloMosaic.Lib.Pointwise
public import Idealize.ShloMosaic.Lib.Tactic.CleanTypes

/-! One batch's normalisation in the first two layers: the kernel's block of results is the layer's values. -/

@[expose] public section

set_option maxRecDepth 16384

noncomputable section

open Idealize.ShloMosaic Idealize.ShloMosaic.TcCoe

namespace Cert.Finish64
open Cert.KernelIdeal Cert.KernelIdeal.Gen Cert.RealNorm Cert.Consts

theorem hO : 2 * 32 = 64 := rfl
theorem pos : (0 : ℝ) < 5242880 := by norm_num
theorem card : ((32 * (2048 * 80) : ℕ) : ℝ) = 5242880 := by norm_num

theorem first (p : Fin 32) (hp) : (⟨p.val, hp⟩ : Fin 64) = member hO 0 p := Fin.ext (by simp [member])
theorem second (p : Fin 32) (hp) : (⟨32 + p.val, hp⟩ : Fin 64) = member hO 1 p := Fin.ext (by simp [member])

/-- Of two values, the one of the channel's group. -/
theorem pick {α : Type} (o : Fin 64) (f : Fin 2 → α) (d : α) :
    Scalar.select (IntOp.andi (IntOp.cmpi .sge (BitVec.ofNat 32 o.val) 32#32) (IntOp.cmpi .slt (BitVec.ofNat 32 o.val) 64#32)) (f 1)
      (Scalar.select (IntOp.andi (IntOp.cmpi .sge (BitVec.ofNat 32 o.val) 0#32) (IntOp.cmpi .slt (BitVec.ofNat 32 o.val) 32#32)) (f 0) d)
      = f (home hO o) := by
  have ho := o.isLt
  rw [within o.val 32 64 _ _ (by omega) (by norm_num) (by norm_num), within o.val 0 32 _ _ (by omega) (by norm_num) (by norm_num)]
  have h1 := home_iff hO o 1
  have h0 := home_iff hO o 0
  by_cases hc : 32 ≤ o.val
  · rw [if_pos ⟨hc, ho⟩, h1.1 ⟨hc, ho⟩]
  · rw [if_neg (fun h => hc h.1), if_pos ⟨Nat.zero_le _, by omega⟩, h0.1 ⟨Nat.zero_le _, by show o.val < 0 * 32 + 32; omega⟩]

/-- The normalised and activated value, given each group's mean and reciprocal deviation. -/
theorem core (v1 v7 : FVec Ideal S2048x64 .f32) (v11 v20 : FVec Ideal S64 .f32) (v29 v35 : Ideal .f32) (n : Fin 2048) (o : Fin 64)
    (x : ℝ) (m s : Fin 2 → ℝ) (hx : (v1 (ix2 n o) : EReal) = (x : EReal)) (hz : (v7 (ix2 n o) : EReal) = 0)
    (hm0 : (v29 : EReal) = (m 0 : EReal))
    (hm1 : Ideal.div (∑ p : Fin 32, (v11 (ix1 ⟨32 + p.val, by omega⟩) : EReal)) (Ideal.ofBits .f32 1251999744#32) = (m 1 : EReal))
    (hs0 : Ideal.rsqrt ((v35 : EReal) - (m 0 : EReal) * (m 0 : EReal) + Ideal.ofBits .f32 925353388#32) = (((s 0)⁻¹ : ℝ) : EReal))
    (hs1 : Ideal.rsqrt (Ideal.div (∑ p : Fin 32, (v20 (ix1 ⟨32 + p.val, by omega⟩) : EReal)) (Ideal.ofBits .f32 1251999744#32)
      - (m 1 : EReal) * (m 1 : EReal) + Ideal.ofBits .f32 925353388#32) = (((s 1)⁻¹ : ℝ) : EReal)) :
    k1_pay11 v1 v7 v11 v20 (iota .tc S1x64 32 [1] iota_S1x64_d1_w32) (k1_pay7 (F := Ideal)) (k1_pay8 (F := Ideal)) v29 v35 (ix2 n o)
      = ((leaky ((x - m (home hO o)) / s (home hO o)) : ℝ) : EReal) := by
  have e1 := pick o (fun g => ((m g : ℝ) : EReal)) 0
  have e2 := pick o (fun g => (((s g)⁻¹ : ℝ) : EReal)) 0
  have er : ∀ z : EReal, (Scalar.rsqrt (F := Ideal) (φ := .f32) z : EReal) = Ideal.rsqrt z := fun _ => rfl
  beta_reduce at e1 e2
  clean_types
  pointwise [k1_pay11, k1_pay7, k1_pay8]
  simp only [er, hm0, hm1, hs0, hs1, e1, e2, hx, hz, add_zero, ofBits_slope, shift_scale_ext]
  exact leaky_ext _

/-- The block the pass stores, from the neighbour maxima, sums and sums of squares of real edge values. -/
theorem block (u0 u1 u2 u3 : Vec Ideal S1x2048x64 .f32) (h : Fin 2048 → Fin 80 → Fin 64 → ℝ)
    (h0 : ∀ n o, (u0 (ix3 0 n o) : EReal) = ((top (fun k => h n k o) : ℝ) : EReal))
    (h1 : ∀ n o, (u1 (ix3 0 n o) : EReal) = ∑ k, ((h n k o : ℝ) : EReal))
    (h2 : ∀ n o, (u2 (ix3 0 n o) : EReal) = ∑ k, ((h n k o : ℝ) : EReal) * ((h n k o : ℝ) : EReal))
    (h3 : ∀ n o, (u3 (ix3 0 n o) : EReal) = 0) (a : Fin 1) (n : Fin 2048) (o : Fin 64) :
    k1_pay1 (k1_pay11 (k1_pay2 u0) (k1_pay4 u3) (k1_pay5 u1 u3) (k1_pay6 u1 u2 u3) (iota .tc S1x64 32 [1] iota_S1x64_d1_w32)
      (k1_pay7 (F := Ideal)) (k1_pay8 (F := Ideal)) (k1_pay9 u1 u3) (k1_pay10 u1 u2 u3)) (ix3 a n o)
      = ((layer hO 5242880 h n o : ℝ) : EReal) := by
  have e5 : ∀ o : Fin 64, (k1_pay5 u1 u3 (ix1 o) : EReal) = ∑ n, ∑ k, ((h n k o : ℝ) : EReal) := by
    intro o
    clean_types
    pointwise [k1_pay5, k1_pay3, k1_pay4]
    simp only [h1, h3, mul_zero, add_zero]
  have e6 : ∀ o : Fin 64, (k1_pay6 u1 u2 u3 (ix1 o) : EReal) = ∑ n, ∑ k, ((h n k o : ℝ) : EReal) * ((h n k o : ℝ) : EReal) := by
    intro o
    clean_types
    pointwise [k1_pay6, k1_pay3, k1_pay4]
    simp only [h2, h3, mul_zero, zero_mul, add_zero]
  have m0 : (k1_pay9 u1 u3 : EReal) = ((mean 5242880 (grp hO h 0) : ℝ) : EReal) := by
    rw [← pass_mean hO h 0 pos (fun p => k1_pay5 u1 u3 (ix1 (member hO 0 p))) (fun p => e5 _)]
    clean_types
    pointwise [k1_pay9]
    rw [ofBits_cnt64]
    simp only [first]
  have s0 : Ideal.rsqrt ((k1_pay10 u1 u2 u3 : EReal) - ((mean 5242880 (grp hO h 0) : ℝ) : EReal) * ((mean 5242880 (grp hO h 0) : ℝ) : EReal)
      + Ideal.ofBits .f32 925353388#32) = (((dev 5242880 (grp hO h 0))⁻¹ : ℝ) : EReal) := by
    rw [← pass_scale hO h 0 pos card (fun p => k1_pay6 u1 u2 u3 (ix1 (member hO 0 p))) _ rfl (fun p => e6 _), ← ofBits_eps]
    clean_types
    pointwise [k1_pay10]
    rw [ofBits_cnt64]
    simp only [first]
  have q : ∀ v : FVec Ideal S64 .f32, ∑ p : Fin 32, (v (ix1 ⟨32 + p.val, by omega⟩) : EReal) = ∑ p : Fin 32, (v (ix1 (member hO 1 p)) : EReal) := by
    intro v
    simp only [second]
  have hp := core (k1_pay2 u0) (k1_pay4 u3) (k1_pay5 u1 u3) (k1_pay6 u1 u2 u3) (k1_pay9 u1 u3) (k1_pay10 u1 u2 u3) n o
    (top (fun k => h n k o)) (fun g => mean 5242880 (grp hO h g)) (fun g => dev 5242880 (grp hO h g))
    (by clean_types; pointwise [k1_pay2]; exact h0 n o) (by clean_types; pointwise [k1_pay4]; exact h3 n o) m0
    (by rw [q, ofBits_cnt64]; exact pass_mean hO h 1 pos _ (fun p => e5 _)) s0
    (by rw [q, ofBits_cnt64, ofBits_eps]; exact pass_scale hO h 1 pos card _ _ rfl (fun p => e6 _))
  rw [show (((layer hO 5242880 h n o : ℝ)) : EReal) = _ from hp.symm]
  clean_types
  pointwise [k1_pay1]

end Cert.Finish64
-- ==== Proof.Kern.Layer1.lean ====
module

public import proofs.«01_k».proof.Proof.Kern.Finish64
public import Idealize.ShloMosaic.Lib.Pipeline.ValueKit

/-! What normalisation pass 1 leaves: the layer's values, from real edge values. -/

@[expose] public section

set_option maxRecDepth 16384
set_option maxHeartbeats 4000000

noncomputable section

open Idealize.ShloMosaic Idealize.ShloMosaic.TcCoe

namespace Cert.Layer1
open Cert.KernelIdeal Cert.KernelIdeal.Gen Cert.RealNorm Cert.Finish64

variable (V : (c : Dev nD) → (b : Ref sig .tc) → Buf (Elt Ideal) ((c : Thread nD τ).loc b))

/-- Every window's block is one batch. -/
theorem idx : ∀ t : Fin grid1.N, win1_0.index t = ![(grid1.coords t 0).val, 0, 0]
    ∧ win1_1.index t = ![(grid1.coords t 0).val, 0, 0] ∧ win1_2.index t = ![(grid1.coords t 0).val, 0, 0]
    ∧ win1_3.index t = ![(grid1.coords t 0).val, 0, 0] ∧ win1_4.index t = ![(grid1.coords t 0).val, 0, 0] := by
  decide +kernel

/-- The layer's values over the batches. -/
def values (h : Fin 4 → Fin 2048 → Fin 80 → Fin 64 → ℝ) : Vec Ideal S4x2048x64 .f32 :=
  fun z => ((layer hO 5242880 (h (z 0)) (z 1) (z 2) : ℝ) : EReal)

/-- The pass's output array, from arrays of neighbour maxima, sums and sums of squares. -/
theorem region (c : Dev nD) (h : Fin 4 → Fin 2048 → Fin 80 → Fin 64 → ℝ)
    (h0 : ∀ b n o, (V c main_v30 (ix3 b n o) : EReal) = ((top (fun k => h b n k o) : ℝ) : EReal))
    (h1 : ∀ b n o, (V c main_v31 (ix3 b n o) : EReal) = ∑ k, ((h b n k o : ℝ) : EReal))
    (h2 : ∀ b n o, (V c main_v33 (ix3 b n o) : EReal) = ∑ k, ((h b n k o : ℝ) : EReal) * ((h b n k o : ℝ) : EReal))
    (h3 : ∀ b n o, V c main_v34 (ix3 b n o) = (0 : EReal)) :
    (dat1 V c).arrAt 4 cfg1.N = values h := by
  refine (dat1 V c).arrAt_eq_of_covers 4 _ (by decide +kernel) fun t hf y => ?_
  blk_simp
  rw [after1_4]
  frame_out
  have e := block (iblk1 V c 0 t) (iblk1 V c 1 t) (iblk1 V c 2 t) (iblk1 V c 3 t) (h (grid1.coords t 0))
    (fun n o => Eq.trans (by blk_ext [iblk1, idx t]) (h0 (grid1.coords t 0) n o))
    (fun n o => Eq.trans (by blk_ext [iblk1, idx t]) (h1 (grid1.coords t 0) n o))
    (fun n o => Eq.trans (by blk_ext [iblk1, idx t]) (h2 (grid1.coords t 0) n o))
    (fun n o => Eq.trans (by blk_ext [iblk1, idx t]) (h3 (grid1.coords t 0) n o)) (y 0) (y 1) (y 2)
  have e0 : ((View.whole main_v35).slice (win1_4.rect t)).emb y 0 = grid1.coords t 0 := Fin.ext (by blk_simp [idx t])
  have e1 : ((View.whole main_v35).slice (win1_4.rect t)).emb y 1 = y 1 := Fin.ext (by blk_simp [idx t])
  have e2 : ((View.whole main_v35).slice (win1_4.rect t)).emb y 2 = y 2 := Fin.ext (by blk_simp [idx t])
  unfold values
  rw [e0, e1, e2, ← e]
  exact congrArg _ (eq_ix3 y)

end Cert.Layer1
-- ==== Proof.Kern.Edges.lean ====
module

public import proofs.«01_k».proof.Proof.Gen.KernelIdeal.Frame
public import Idealize.ShloMosaic.Lib.Pointwise
public import Idealize.ShloMosaic.Lib.Tactic.CleanTypes

/-! The edge features: each row's neighbours by a table of pairs, their differences from the row, and the row itself. -/

@[expose] public section

set_option maxRecDepth 16384

noncomputable section

open Idealize.ShloMosaic Idealize.ShloMosaic.TcCoe

namespace Cert.Edges
open Cert.KernelIdeal Cert.KernelIdeal.Gen

/-- A table of row numbers, the negative ones counted from the end. -/
def wrapped (i : IVec S4x2048x80 32) : IVec S4x2048x80 32 :=
  select (cmpi .slt i (broadcastInDim S4x2048x80 ![] bcast_S_S4x2048x80 (constantI S_ 32 0#32)))
    (addi i (broadcastInDim S4x2048x80 ![] bcast_S_S4x2048x80 (constantI S_ 32 2048#32))) i

/-- Each batch's own number. -/
def batch : IVec S4x1x1 32 :=
  select (cmpi .slt (broadcastInDim S4x1x1 ![0] bcast_S4_S4x1x1_0 (iotaInDim S4 32 0)) (broadcastInDim S4x1x1 ![] bcast_S_S4x1x1 (constantI S_ 32 0#32)))
    (addi (broadcastInDim S4x1x1 ![0] bcast_S4_S4x1x1_0 (iotaInDim S4 32 0)) (broadcastInDim S4x1x1 ![] bcast_S_S4x1x1 (constantI S_ 32 4#32)))
    (broadcastInDim S4x1x1 ![0] bcast_S4_S4x1x1_0 (iotaInDim S4 32 0))

/-- Two tables of numbers side by side. -/
def beside (a b : IVec S4x2048x80x1 32) : IVec S4x2048x80x2 32 :=
  concatenate S4x2048x80x2 3 [⟨S4x2048x80x1, a⟩, ⟨S4x2048x80x1, b⟩] concatenates_S4x2048x80x1_S4x2048x80x1_S4x2048x80x2_d3

/-- Two features of 3 channels side by side. -/
def join6 (a b : FVec Ideal S4x2048x80x3 .f32) : FVec Ideal S4x2048x80x6 .f32 :=
  concatenate S4x2048x80x6 3 [⟨S4x2048x80x3, a⟩, ⟨S4x2048x80x3, b⟩] concatenates_S4x2048x80x3_S4x2048x80x3_S4x2048x80x6_d3

/-- Two features of 64 channels side by side. -/
def join128 (a b : FVec Ideal S4x2048x80x64 .f32) : FVec Ideal S4x2048x80x128 .f32 :=
  concatenate S4x2048x80x128 3 [⟨S4x2048x80x64, a⟩, ⟨S4x2048x80x64, b⟩] concatenates_S4x2048x80x64_S4x2048x80x64_S4x2048x80x128_d3

theorem beside_eq (a b : IVec S4x2048x80x1 32) :
    concatenate S4x2048x80x2 3 [⟨S4x2048x80x1, a⟩, ⟨S4x2048x80x1, b⟩] concatenates_S4x2048x80x1_S4x2048x80x1_S4x2048x80x2_d3 = beside a b := rfl

theorem join6_eq (a b : FVec Ideal S4x2048x80x3 .f32) :
    concatenate S4x2048x80x6 3 [⟨S4x2048x80x3, a⟩, ⟨S4x2048x80x3, b⟩] concatenates_S4x2048x80x3_S4x2048x80x3_S4x2048x80x6_d3 = join6 a b := rfl

theorem join128_eq (a b : FVec Ideal S4x2048x80x64 .f32) :
    concatenate S4x2048x80x128 3 [⟨S4x2048x80x64, a⟩, ⟨S4x2048x80x64, b⟩] concatenates_S4x2048x80x64_S4x2048x80x64_S4x2048x80x128_d3 = join128 a b := rfl

/-- Batch and row number of every row's neighbours: the 80 largest of the table of pairs. -/
def nbr (pd : FVec Ideal S4x2048x2048 .f32) : IVec S4x2048x80x2 32 :=
  beside (broadcastInDim S4x2048x80x1 ![0, 1, 2] bcast_S4x2048x80_S4x2048x80x1_0_1_2
      (broadcastInDim S4x2048x80 ![0, 1, 2] bcast_S4x1x1_S4x2048x80_0_1_2 batch))
    (broadcastInDim S4x2048x80x1 ![0, 1, 2] bcast_S4x2048x80_S4x2048x80x1_0_1_2
      (wrapped (Host.topK S4x2048x80 2 (FloatOps.cmpfTotal .gt) pd sliceFits_S4x2048x2048_S4x2048x80).2))

/-- The 3-channel rows repeated for every neighbour. -/
def narrowRow (xt : FVec Ideal S4x2048x3 .f32) : FVec Ideal S4x2048x80x3 .f32 :=
  broadcastInDim S4x2048x80x3 ![0, 1, 2, 3] bcast_S4x2048x1x3_S4x2048x80x3_0_1_2_3
    (broadcastInDim S4x2048x1x3 ![0, 1, 3] bcast_S4x2048x3_S4x2048x1x3_0_1_3 xt)

/-- The 64-channel rows repeated for every neighbour. -/
def wideRow (xt : FVec Ideal S4x2048x64 .f32) : FVec Ideal S4x2048x80x64 .f32 :=
  broadcastInDim S4x2048x80x64 ![0, 1, 2, 3] bcast_S4x2048x1x64_S4x2048x80x64_0_1_2_3
    (broadcastInDim S4x2048x1x64 ![0, 1, 3] bcast_S4x2048x64_S4x2048x1x64_0_1_3 xt)

/-- The edge features of 3-channel rows. -/
def narrow (xt : FVec Ideal S4x2048x3 .f32) (pd : FVec Ideal S4x2048x2048 .f32) : FVec Ideal S4x2048x80x6 .f32 :=
  join6 (subf (Host.gather gather_S4x2048x3_S4x2048x80x2_S4x2048x80x3_3_01_n_n_01_3_113 xt (nbr pd)) (narrowRow xt)) (narrowRow xt)

/-- The edge features of 64-channel rows. -/
def wide (xt : FVec Ideal S4x2048x64 .f32) (pd : FVec Ideal S4x2048x2048 .f32) : FVec Ideal S4x2048x80x128 .f32 :=
  join128 (subf (Host.gather gather_S4x2048x64_S4x2048x80x2_S4x2048x80x64_3_01_n_n_01_3_1164 xt (nbr pd)) (wideRow xt)) (wideRow xt)

/-- An ideal number that is a real one. -/
def IsReal (x : EReal) : Prop := ∃ r : ℝ, x = (r : EReal)

theorem isReal_sub {x y : EReal} (hx : IsReal x) (hy : IsReal y) : IsReal (x - y) := by
  obtain ⟨a, rfl⟩ := hx
  obtain ⟨b, rfl⟩ := hy
  exact ⟨a - b, by norm_cast⟩

theorem isReal_mul {x y : EReal} (hx : IsReal x) (hy : IsReal y) : IsReal (x * y) := by
  obtain ⟨a, rfl⟩ := hx
  obtain ⟨b, rfl⟩ := hy
  exact ⟨a * b, by norm_cast⟩

theorem isReal_add {x y : EReal} (hx : IsReal x) (hy : IsReal y) : IsReal (x + y) := by
  obtain ⟨a, rfl⟩ := hx
  obtain ⟨b, rfl⟩ := hy
  exact ⟨a + b, by norm_cast⟩

theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact isReal_add (h a) ih

/-- Edge features of real 3-channel rows are real, whatever the table of pairs. -/
theorem narrow_isReal (xt : FVec Ideal S4x2048x3 .f32) (pd : FVec Ideal S4x2048x2048 .f32) (hx : ∀ j, IsReal (xt j)) (j : S4x2048x80x6.Idx) :
    IsReal (narrow xt pd j) := by
  have hr : ∀ i, IsReal (narrowRow xt i) := fun i => hx _
  unfold narrow join6
  refine concatenate_forall (P := fun x : EReal => IsReal x) _ _ _ _ ?_ j
  intro p hp
  rcases List.mem_cons.1 hp with rfl | hp
  · exact fun i => isReal_sub (hx _) (hr i)
  · rcases List.mem_singleton.1 hp with rfl
    exact hr

/-- Edge features of real 64-channel rows are real, whatever the table of pairs. -/
theorem wide_isReal (xt : FVec Ideal S4x2048x64 .f32) (pd : FVec Ideal S4x2048x2048 .f32) (hx : ∀ j, IsReal (xt j)) (j : S4x2048x80x128.Idx) :
    IsReal (wide xt pd j) := by
  have hr : ∀ i, IsReal (wideRow xt i) := fun i => hx _
  unfold wide join128
  refine concatenate_forall (P := fun x : EReal => IsReal x) _ _ _ _ ?_ j
  intro p hp
  rcases List.mem_cons.1 hp with rfl | hp
  · exact fun i => isReal_sub (hx _) (hr i)
  · rcases List.mem_singleton.1 hp with rfl
    exact hr

end Cert.Edges
-- ==== Proof.Kern.Stretch.lean ====
module

public import proofs.«01_k».proof.Proof.Kern.Edges
public import Idealize.ShloMosaic.Lib.StableHlo.RunRead

/-! What the host operations between the launches leave, from the contents before them. -/

@[expose] public section

set_option maxRecDepth 16384
set_option maxHeartbeats 4000000

noncomputable section

open Idealize.ShloMosaic Idealize.ShloMosaic.TcCoe

namespace Cert.Stretch
open Cert.KernelIdeal Cert.KernelIdeal.Gen

variable (U : Valuation τ sig (Elt Ideal))

/-! ### Every edge through a layer's weights -/

def lin6 (e : FVec Ideal S4x2048x80x6 .f32) (w : FVec Ideal S64x6 .f32) : FVec Ideal S4x2048x80x64 .f32 :=
  Host.dotGeneral dot_S4x2048x80x6_S64x6_S4x2048x80x64_3_1_012_0_n_n none e w

def lin64 (e : FVec Ideal S4x2048x80x128 .f32) (w : FVec Ideal S64x128 .f32) : FVec Ideal S4x2048x80x64 .f32 :=
  Host.dotGeneral dot_S4x2048x80x128_S64x128_S4x2048x80x64_3_1_012_0_n_n none e w

def lin128 (e : FVec Ideal S4x2048x80x128 .f32) (w : FVec Ideal S128x128 .f32) : FVec Ideal S4x2048x80x128 .f32 :=
  Host.dotGeneral dot_S4x2048x80x128_S128x128_S4x2048x80x128_3_1_012_0_n_n none e w

/-! ### The largest and the sum over a row's neighbours, and an array of zeros -/

def most64 (e : FVec Ideal S4x2048x80x64 .f32) : FVec Ideal S4x2048x64 .f32 :=
  Host.reduce FloatOps.maximumf e (constant S_ .f32 0xFF800000#32) reducesTo_S4x2048x80x64_S4x2048x64_d2 h_S_

def total64 (e : FVec Ideal S4x2048x80x64 .f32) : FVec Ideal S4x2048x64 .f32 :=
  Host.reduceAdd e (constant S_ .f32 0x00000000#32) reducesTo_S4x2048x80x64_S4x2048x64_d2 h_S_

def zero64 : FVec Ideal S4x2048x64 .f32 :=
  broadcastInDim S4x2048x64 ![] bcast_S_S4x2048x64 (constant S_ .f32 0x00000000#32)

def most128 (e : FVec Ideal S4x2048x80x128 .f32) : FVec Ideal S4x2048x128 .f32 :=
  Host.reduce FloatOps.maximumf e (constant S_ .f32 0xFF800000#32) reducesTo_S4x2048x80x128_S4x2048x128_d2 h_S_

def total128 (e : FVec Ideal S4x2048x80x128 .f32) : FVec Ideal S4x2048x128 .f32 :=
  Host.reduceAdd e (constant S_ .f32 0x00000000#32) reducesTo_S4x2048x80x128_S4x2048x128_d2 h_S_

def zero128 : FVec Ideal S4x2048x128 .f32 :=
  broadcastInDim S4x2048x128 ![] bcast_S_S4x2048x128 (constant S_ .f32 0x00000000#32)

/-! ### At an index -/

theorem lin6_at (e : FVec Ideal S4x2048x80x6 .f32) (w : FVec Ideal S64x6 .f32) (b : Fin 4) (n : Fin 2048) (k : Fin 80) (o : Fin 64) :
    (lin6 e w (ix4 b n k o) : EReal) = ∑ c : Fin 6, (e (ix4 b n k c) : EReal) * (w (ix2 o c) : EReal) := by
  clean_types
  pointwise [lin6]

theorem lin64_at (e : FVec Ideal S4x2048x80x128 .f32) (w : FVec Ideal S64x128 .f32) (b : Fin 4) (n : Fin 2048) (k : Fin 80) (o : Fin 64) :
    (lin64 e w (ix4 b n k o) : EReal) = ∑ c : Fin 128, (e (ix4 b n k c) : EReal) * (w (ix2 o c) : EReal) := by
  clean_types
  pointwise [lin64]

theorem lin128_at (e : FVec Ideal S4x2048x80x128 .f32) (w : FVec Ideal S128x128 .f32) (b : Fin 4) (n : Fin 2048) (k : Fin 80) (o : Fin 128) :
    (lin128 e w (ix4 b n k o) : EReal) = ∑ c : Fin 128, (e (ix4 b n k c) : EReal) * (w (ix2 o c) : EReal) := by
  clean_types
  pointwise [lin128]

theorem most64_at (e : FVec Ideal S4x2048x80x64 .f32) (b : Fin 4) (n : Fin 2048) (o : Fin 64) :
    (most64 e (ix3 b n o) : EReal) = Finset.univ.fold max (Ideal.ofBits .f32 0xFF800000#32) fun k : Fin 80 => (e (ix4 b n k o) : EReal) := by
  clean_types
  pointwise [most64]

theorem total64_at (e : FVec Ideal S4x2048x80x64 .f32) (b : Fin 4) (n : Fin 2048) (o : Fin 64) :
    (total64 e (ix3 b n o) : EReal) = ∑ k : Fin 80, (e (ix4 b n k o) : EReal) := by
  clean_types
  pointwise [total64]

theorem zero64_at (b : Fin 4) (n : Fin 2048) (o : Fin 64) : zero64 (ix3 b n o) = (0 : EReal) := by
  clean_types
  pointwise [zero64]

theorem most128_at (e : FVec Ideal S4x2048x80x128 .f32) (b : Fin 4) (n : Fin 2048) (o : Fin 128) :
    (most128 e (ix3 b n o) : EReal) = Finset.univ.fold max (Ideal.ofBits .f32 0xFF800000#32) fun k : Fin 80 => (e (ix4 b n k o) : EReal) := by
  clean_types
  pointwise [most128]

theorem total128_at (e : FVec Ideal S4x2048x80x128 .f32) (b : Fin 4) (n : Fin 2048) (o : Fin 128) :
    (total128 e (ix3 b n o) : EReal) = ∑ k : Fin 80, (e (ix4 b n k o) : EReal) := by
  clean_types
  pointwise [total128]

theorem zero128_at (b : Fin 4) (n : Fin 2048) (o : Fin 128) : zero128 (ix3 b n o) = (0 : EReal) := by
  clean_types
  pointwise [zero128]

/-! ### Layer 1: neighbours' features through the weights, then the row statistics -/

/-- The edge values of layer 1. -/
def edge1 : FVec Ideal S4x2048x80x64 .f32 :=
  lin6 (Edges.narrow (U (Proc.devRef .tc main_v0)) (U (Proc.devRef .tc main_v7_0))) (U (Proc.devRef .tc main_arg1))

theorem most1 : (StableHlo.after (hostOps1 (F := Ideal)) U (Proc.devRef .tc main_v30) : FVec Ideal S4x2048x64 .f32)
    = most64 (edge1 U) := by
  after_reads_simp [Edges.beside_eq, Edges.join6_eq, Edges.join128_eq]
  rfl

theorem total1 : (StableHlo.after (hostOps1 (F := Ideal)) U (Proc.devRef .tc main_v31) : FVec Ideal S4x2048x64 .f32)
    = total64 (edge1 U) := by
  after_reads_simp [Edges.beside_eq, Edges.join6_eq, Edges.join128_eq]
  rfl

theorem square1 : (StableHlo.after (hostOps1 (F := Ideal)) U (Proc.devRef .tc main_v33) : FVec Ideal S4x2048x64 .f32)
    = total64 (mulf (edge1 U) (edge1 U)) := by
  after_reads_simp [Edges.beside_eq, Edges.join6_eq, Edges.join128_eq]
  rfl

theorem zero1 : (StableHlo.after (hostOps1 (F := Ideal)) U (Proc.devRef .tc main_v34) : FVec Ideal S4x2048x64 .f32)
    = zero64 := by
  after_reads_simp [Edges.beside_eq, Edges.join6_eq, Edges.join128_eq]
  rfl

/-! ### Layer 2: neighbours' features through the weights, then the row statistics -/

/-- The edge values of layer 2. -/
def edge2 : FVec Ideal S4x2048x80x64 .f32 :=
  lin64 (Edges.wide (U (Proc.devRef .tc main_v35)) (U (Proc.devRef .tc main_v43_0))) (U (Proc.devRef .tc main_arg4))

theorem most2 : (StableHlo.after (hostOps3 (F := Ideal)) U (Proc.devRef .tc main_v66) : FVec Ideal S4x2048x64 .f32)
    = most64 (edge2 U) := by
  after_reads_simp [Edges.beside_eq, Edges.join6_eq, Edges.join128_eq]
  rfl

theorem total2 : (StableHlo.after (hostOps3 (F := Ideal)) U (Proc.devRef .tc main_v67) : FVec Ideal S4x2048x64 .f32)
    = total64 (edge2 U) := by
  after_reads_simp [Edges.beside_eq, Edges.join6_eq, Edges.join128_eq]
  rfl

theorem square2 : (StableHlo.after (hostOps3 (F := Ideal)) U (Proc.devRef .tc main_v69) : FVec Ideal S4x2048x64 .f32)
    = total64 (mulf (edge2 U) (edge2 U)) := by
  after_reads_simp [Edges.beside_eq, Edges.join6_eq, Edges.join128_eq]
  rfl

theorem zero2 : (StableHlo.after (hostOps3 (F := Ideal)) U (Proc.devRef .tc main_v70) : FVec Ideal S4x2048x64 .f32)
    = zero64 := by
  after_reads_simp [Edges.beside_eq, Edges.join6_eq, Edges.join128_eq]
  rfl

/-! ### Layer 3: neighbours' features through the weights, then the row statistics -/

/-- The edge values of layer 3. -/
def edge3 : FVec Ideal S4x2048x80x128 .f32 :=
  lin128 (Edges.wide (U (Proc.devRef .tc main_v71)) (U (Proc.devRef .tc main_v79_0))) (U (Proc.devRef .tc main_arg7))

theorem most3 : (StableHlo.after (hostOps5 (F := Ideal)) U (Proc.devRef .tc main_v102) : FVec Ideal S4x2048x128 .f32)
    = most128 (edge3 U) := by
  after_reads_simp [Edges.beside_eq, Edges.join6_eq, Edges.join128_eq]
  rfl

theorem total3 : (StableHlo.after (hostOps5 (F := Ideal)) U (Proc.devRef .tc main_v103) : FVec Ideal S4x2048x128 .f32)
    = total128 (edge3 U) := by
  after_reads_simp [Edges.beside_eq, Edges.join6_eq, Edges.join128_eq]
  rfl

theorem square3 : (StableHlo.after (hostOps5 (F := Ideal)) U (Proc.devRef .tc main_v105) : FVec Ideal S4x2048x128 .f32)
    = total128 (mulf (edge3 U) (edge3 U)) := by
  after_reads_simp [Edges.beside_eq, Edges.join6_eq, Edges.join128_eq]
  rfl

theorem zero3 : (StableHlo.after (hostOps5 (F := Ideal)) U (Proc.devRef .tc main_v106) : FVec Ideal S4x2048x128 .f32)
    = zero128 := by
  after_reads_simp [Edges.beside_eq, Edges.join6_eq, Edges.join128_eq]
  rfl

end Cert.Stretch
-- ==== Proof.Kern.Stats.lean ====
module

public import proofs.«01_k».proof.Proof.Kern.Stretch
public import proofs.«01_k».proof.Proof.Real.Pass

/-! Row statistics of real edge values. -/

@[expose] public section

set_option maxRecDepth 16384

noncomputable section

open Idealize.ShloMosaic Idealize.ShloMosaic.TcCoe

namespace Cert.Stats
open Cert.KernelIdeal Cert.KernelIdeal.Gen Cert.RealNorm Cert.Consts Cert.Stretch

theorem most64 (e : FVec Ideal S4x2048x80x64 .f32) (h : Fin 4 → Fin 2048 → Fin 80 → Fin 64 → ℝ)
    (he : ∀ b n k o, (e (ix4 b n k o) : EReal) = ((h b n k o : ℝ) : EReal)) (b : Fin 4) (n : Fin 2048) (o : Fin 64) :
    (Stretch.most64 e (ix3 b n o) : EReal) = ((top (fun k => h b n k o) : ℝ) : EReal) := by
  rw [most64_at, ← fold_max_coe, ofBits_negInf]
  simp only [he]

theorem total64 (e : FVec Ideal S4x2048x80x64 .f32) (h : Fin 4 → Fin 2048 → Fin 80 → Fin 64 → ℝ)
    (he : ∀ b n k o, (e (ix4 b n k o) : EReal) = ((h b n k o : ℝ) : EReal)) (b : Fin 4) (n : Fin 2048) (o : Fin 64) :
    (Stretch.total64 e (ix3 b n o) : EReal) = ∑ k, ((h b n k o : ℝ) : EReal) := by
  rw [total64_at]
  simp only [he]

theorem square64 (e : FVec Ideal S4x2048x80x64 .f32) (h : Fin 4 → Fin 2048 → Fin 80 → Fin 64 → ℝ)
    (he : ∀ b n k o, (e (ix4 b n k o) : EReal) = ((h b n k o : ℝ) : EReal)) (b : Fin 4) (n : Fin 2048) (o : Fin 64) :
    (Stretch.total64 (mulf e e) (ix3 b n o) : EReal) = ∑ k, ((h b n k o : ℝ) : EReal) * ((h b n k o : ℝ) : EReal) := by
  rw [total64_at]
  refine Finset.sum_congr rfl fun k _ => ?_
  rw [← he]
  rfl

theorem most128 (e : FVec Ideal S4x2048x80x128 .f32) (h : Fin 4 → Fin 2048 → Fin 80 → Fin 128 → ℝ)
    (he : ∀ b n k o, (e (ix4 b n k o) : EReal) = ((h b n k o : ℝ) : EReal)) (b : Fin 4) (n : Fin 2048) (o : Fin 128) :
    (Stretch.most128 e (ix3 b n o) : EReal) = ((top (fun k => h b n k o) : ℝ) : EReal) := by
  rw [most128_at, ← fold_max_coe, ofBits_negInf]
  simp only [he]

theorem total128 (e : FVec Ideal S4x2048x80x128 .f32) (h : Fin 4 → Fin 2048 → Fin 80 → Fin 128 → ℝ)
    (he : ∀ b n k o, (e (ix4 b n k o) : EReal) = ((h b n k o : ℝ) : EReal)) (b : Fin 4) (n : Fin 2048) (o : Fin 128) :
    (Stretch.total128 e (ix3 b n o) : EReal) = ∑ k, ((h b n k o : ℝ) : EReal) := by
  rw [total128_at]
  simp only [he]

theorem square128 (e : FVec Ideal S4x2048x80x128 .f32) (h : Fin 4 → Fin 2048 → Fin 80 → Fin 128 → ℝ)
    (he : ∀ b n k o, (e (ix4 b n k o) : EReal) = ((h b n k o : ℝ) : EReal)) (b : Fin 4) (n : Fin 2048) (o : Fin 128) :
    (Stretch.total128 (mulf e e) (ix3 b n o) : EReal) = ∑ k, ((h b n k o : ℝ) : EReal) * ((h b n k o : ℝ) : EReal) := by
  rw [total128_at]
  refine Finset.sum_congr rfl fun k _ => ?_
  rw [← he]
  rfl

end Cert.Stats
-- ==== Proof.Kern.Ends.lean ====
module

public import proofs.«01_k».proof.Proof.Kern.Edges
public import Idealize.ShloMosaic.Lib.StableHlo.RunRead

/-! The short stretches of host operations: the transposes, the joined features and the two results. -/

@[expose] public section

set_option maxRecDepth 16384
set_option maxHeartbeats 4000000

noncomputable section

open Idealize.ShloMosaic Idealize.ShloMosaic.TcCoe

namespace Cert.Ends
open Cert.KernelIdeal Cert.KernelIdeal.Gen

variable (U : Valuation τ sig (Elt Ideal))

/-- The three layers' rows side by side. -/
def joined (x1 x2 : FVec Ideal S4x2048x64 .f32) (x3 : FVec Ideal S4x2048x128 .f32) : FVec Ideal S4x2048x256 .f32 :=
  concatenate S4x2048x256 2 [⟨S4x2048x64, x1⟩, ⟨S4x2048x64, x2⟩, ⟨S4x2048x128, x3⟩] concatenates_S4x2048x64_S4x2048x64_S4x2048x128_S4x2048x256_d2

theorem rows : (StableHlo.after (hostOps0 (F := Ideal)) U (Proc.devRef .tc main_v0) : FVec Ideal S4x2048x3 .f32)
    = transpose S4x2048x3 [0, 2, 1] (U (Proc.devRef .tc main_arg0)) transposes_S4x3x2048_S4x2048x3_0_2_1 := by
  after_reads_simp

theorem columns2 : (StableHlo.after (hostOps2 (F := Ideal)) U (Proc.devRef .tc main_v42) : FVec Ideal S4x64x2048 .f32)
    = transpose S4x64x2048 [0, 2, 1] (U (Proc.devRef .tc main_v35)) transposes_S4x2048x64_S4x64x2048_0_2_1 := by
  after_reads_simp

theorem columns3 : (StableHlo.after (hostOps4 (F := Ideal)) U (Proc.devRef .tc main_v78) : FVec Ideal S4x64x2048 .f32)
    = transpose S4x64x2048 [0, 2, 1] (U (Proc.devRef .tc main_v71)) transposes_S4x2048x64_S4x64x2048_0_2_1 := by
  after_reads_simp

theorem features : (StableHlo.after (hostOps6 (F := Ideal)) U (Proc.devRef .tc main_v108) : FVec Ideal S4x2048x256 .f32)
    = joined (U (Proc.devRef .tc main_v35)) (U (Proc.devRef .tc main_v71)) (U (Proc.devRef .tc main_v107)) := by
  after_reads_simp
  rfl

theorem weights : (StableHlo.after (hostOps6 (F := Ideal)) U (Proc.devRef .tc main_v109) : FVec Ideal S256x1024 .f32)
    = transpose S256x1024 [1, 0] (U (Proc.devRef .tc main_arg10)) transposes_S1024x256_S256x1024_1_0 := by
  after_reads_simp

theorem result0 : (StableHlo.after (hostOps7 (F := Ideal)) U (Proc.devRef .tc main_v111) : FVec Ideal S4x1024 .f32)
    = shapeCast S4x1024 (U (Proc.devRef .tc main_v110)) shapeCasts_S4x1x1024_S4x1024 := by
  after_reads_simp
  rfl

theorem result1 : (StableHlo.after (hostOps7 (F := Ideal)) U (Proc.devRef .tc main_v112) : FVec Ideal S4x256x2048 .f32)
    = transpose S4x256x2048 [0, 2, 1] (U (Proc.devRef .tc main_v108)) transposes_S4x2048x256_S4x256x2048_0_2_1 := by
  after_reads_simp

end Cert.Ends
-- ==== Proof.Kern.Turn.lean ====
module

public import proofs.«01_k».proof.Proof.Kern.Ends
public import Idealize.ShloMosaic.Lib.Pointwise
public import Idealize.ShloMosaic.Lib.Tactic.CleanTypes

/-! The short stretches read at an index. -/

@[expose] public section

set_option maxRecDepth 16384
set_option maxHeartbeats 1000000

noncomputable section

open Idealize.ShloMosaic Idealize.ShloMosaic.TcCoe

namespace Cert.Turn
open Cert.KernelIdeal Cert.KernelIdeal.Gen Cert.Ends

theorem rows_at (x : FVec Ideal S4x3x2048 .f32) (b : Fin 4) (n : Fin 2048) (k : Fin 3) :
    transpose S4x2048x3 [0, 2, 1] x transposes_S4x3x2048_S4x2048x3_0_2_1 (ix3 b n k) = x (ix3 b k n) := by
  clean_types
  pointwise []

theorem columns_at (x : FVec Ideal S4x2048x64 .f32) (b : Fin 4) (k : Fin 64) (n : Fin 2048) :
    transpose S4x64x2048 [0, 2, 1] x transposes_S4x2048x64_S4x64x2048_0_2_1 (ix3 b k n) = x (ix3 b n k) := by
  clean_types
  pointwise []

theorem weights_at (x : FVec Ideal S1024x256 .f32) (k : Fin 256) (o : Fin 1024) :
    transpose S256x1024 [1, 0] x transposes_S1024x256_S256x1024_1_0 (ix2 k o) = x (ix2 o k) := by
  clean_types
  pointwise []

theorem result0_at (x : FVec Ideal S4x1x1024 .f32) (b : Fin 4) (o : Fin 1024) :
    shapeCast S4x1024 x shapeCasts_S4x1x1024_S4x1024 (ix2 b o) = x (ix3 b 0 o) := by
  clean_types
  pointwise []

theorem result1_at (x : FVec Ideal S4x2048x256 .f32) (b : Fin 4) (k : Fin 256) (n : Fin 2048) :
    transpose S4x256x2048 [0, 2, 1] x transposes_S4x2048x256_S4x256x2048_0_2_1 (ix3 b k n) = x (ix3 b n k) := by
  clean_types
  pointwise []

theorem joined_at (x1 x2 : FVec Ideal S4x2048x64 .f32) (x3 : FVec Ideal S4x2048x128 .f32) (b : Fin 4) (n : Fin 2048) (k : Fin 256) :
    joined x1 x2 x3 (ix3 b n k)
      = if h : k.val < 64 then x1 (ix3 b n ⟨k.val, h⟩)
        else if h : k.val - 64 < 64 then x2 (ix3 b n ⟨k.val - 64, h⟩) else x3 (ix3 b n ⟨k.val - 64 - 64, by omega⟩) := by
  clean_types
  pointwise [joined]

end Cert.Turn
-- ==== Proof.Ref.Gap.lean ====
module

public import proofs.«01_k».proof.Proof.Kern.Gap
public import proofs.«01_k».proof.Proof.Gen.ReferenceIdeal.Read
public import Idealize.ShloMosaic.Lib.Tactic.CleanTypes

/-! The reference's pair scores in the three layers. -/

@[expose] public section

set_option maxRecDepth 16384

noncomputable section

open Idealize.ShloMosaic Idealize.ShloMosaic.TcCoe

namespace Cert.RefGap
open Cert.ReferenceIdeal Cert.ReferenceIdeal.Gen Cert.ReferenceIdeal.Read Cert.Gap

/-- Layer one: scores of the input points. -/
theorem first (x0 : Vec Ideal S4x3x2048 .f32) (b : Fin 4) (i j : Fin 2048) :
    val_main_v11 x0 (ix3 b i j) = gap (fun n c => (x0 (ix3 b c n) : EReal)) i j := by
  clean_types
  pointwise [val_main_v0, val_main_v1, val_main_v2, val_main_v3, val_main_v4, val_main_v5, val_main_v6, val_main_v7, val_main_v8, val_main_v9, val_main_v10, val_main_v11, val_main_cst, val_main_cst_0]
  rfl

/-- Scores of any sixty-four-channel features. -/
theorem pairs (u : FVec Ideal S4x64x2048 .f32) (b : Fin 4) (i j : Fin 2048) :
    subf (subf (broadcastInDim S4x2048x2048 ![0, 1, 2] bcast_S4x1x2048_S4x2048x2048_0_1_2 (Host.negf (broadcastInDim S4x1x2048 ![0, 2] bcast_S4x2048_S4x1x2048_0_2 (Host.reduceAdd (mulf u u) (val_main_cst_11 (F := Ideal)) reducesTo_S4x64x2048_S4x2048_d1 h_S_))))
     (mulf (val_main_v60 (F := Ideal)) (Host.dotGeneral dot_S4x64x2048_S4x64x2048_S4x2048x2048_1_1_2_2_0_0 none u u)))
     (broadcastInDim S4x2048x2048 ![0, 1, 2] bcast_S4x2048x1_S4x2048x2048_0_1_2 (broadcastInDim S4x2048x1 ![0, 1] bcast_S4x2048_S4x2048x1_0_1 (Host.reduceAdd (mulf u u) (val_main_cst_11 (F := Ideal)) reducesTo_S4x64x2048_S4x2048_d1 h_S_))) (ix3 b i j) = gap (fun n c => (u (ix3 b c n) : EReal)) i j := by
  clean_types
  pointwise [val_main_v60, val_main_cst_10, val_main_cst_11]
  rfl

/-- Layer two: scores of layer one's features. -/
theorem second (x0 : Vec Ideal S4x3x2048 .f32) (x1 : Vec Ideal S64x6 .f32) (x2 x3 : Vec Ideal S64 .f32) (b : Fin 4) (i j : Fin 2048) :
    val_main_v70 x0 x1 x2 x3 (ix3 b i j) = gap (fun n c => (val_main_v58 x0 x1 x2 x3 (ix3 b c n) : EReal)) i j :=
  pairs (val_main_v58 (F := Ideal) x0 x1 x2 x3) b i j

/-- Layer three: scores of layer two's features. -/
theorem third (x0 : Vec Ideal S4x3x2048 .f32) (x1 : Vec Ideal S64x6 .f32) (x2 x3 : Vec Ideal S64 .f32)
    (x4 : Vec Ideal S64x128 .f32) (x5 x6 : Vec Ideal S64 .f32) (b : Fin 4) (i j : Fin 2048) :
    val_main_v129 x0 x1 x2 x3 x4 x5 x6 (ix3 b i j) =
      gap (fun n c => (val_main_v117 x0 x1 x2 x3 x4 x5 x6 (ix3 b c n) : EReal)) i j :=
  pairs (val_main_v117 (F := Ideal) x0 x1 x2 x3 x4 x5 x6) b i j

end Cert.RefGap
-- ==== Proof.Ref.Layer1.lean ====
module

public import proofs.«01_k».proof.Proof.Gen.ReferenceIdeal.Read
public import proofs.«01_k».proof.Proof.Real.Extended
public import Idealize.ShloMosaic.Lib.Pointwise
public import Idealize.ShloMosaic.Lib.Tactic.CleanTypes

/-! The reference's first layer on finite features: its output is the real layer of `Real/Group`. -/

@[expose] public section

set_option maxRecDepth 16384

noncomputable section

open Idealize.ShloMosaic

namespace Cert.Ref1
open Cert.ReferenceIdeal Cert.ReferenceIdeal.Gen Cert.ReferenceIdeal.Read Cert.RealNorm Cert.Consts

variable (x0 : (⟨S4x3x2048, .f32⟩ : BufTy).Contents (Elt Ideal)) (x1 : (⟨S64x6, .f32⟩ : BufTy).Contents (Elt Ideal))
  (x2 x3 : (⟨S64, .f32⟩ : BufTy).Contents (Elt Ideal)) (h : Fin 4 → Fin 2048 → Fin 80 → Fin 64 → ℝ)

theorem hO : 2 * 32 = 64 := rfl
theorem pos : (0 : ℝ) < 5242880 := by norm_num
theorem hM : 32 * (2048 * 80) = 5242880 := rfl

/-- The row of a group. -/
theorem row (hh : ∀ b o n k, val_main_v36 x0 x1 (ix4 b o n k) = ((h b n k o : ℝ) : EReal)) (b : Fin 4) (g : Fin 2)
    (x : Fin 5242880) : val_main_v37 x0 x1 (ix3 b g x) = ((flat hO hM (h b) g x : ℝ) : EReal) := by
  clean_types
  pointwise [val_main_v37]
  rw [hh]
  exact congrArg _ (flat_eq hO hM (h b) g x rfl rfl rfl)

/-- The group's mean. -/
theorem mean_val (hh : ∀ b o n k, val_main_v36 x0 x1 (ix4 b o n k) = ((h b n k o : ℝ) : EReal)) (b : Fin 4) (g : Fin 2) :
    val_main_v41 x0 x1 (ix3 b g 0) = ((mean 5242880 (flat hO hM (h b) g) : ℝ) : EReal) := by
  clean_types
  pointwise [val_main_v41, val_main_v40, val_main_v39, val_main_v38, val_main_cst_4, val_main_cst_5]
  simp only [row x0 x1 h hh, ofBits_cnt64]
  exact mean_ext (flat hO hM (h b) g) pos

/-- The group's stabilised deviation. -/
theorem dev_val (hh : ∀ b o n k, val_main_v36 x0 x1 (ix4 b o n k) = ((h b n k o : ℝ) : EReal)) (b : Fin 4) (g : Fin 2) :
    val_main_v47 x0 x1 (ix3 b g 0) = ((dev 5242880 (flat hO hM (h b) g) : ℝ) : EReal) := by
  have hm : Ideal.div (∑ x, val_main_v37 x0 x1 (ix3 b g x)) (((5242880 : ℝ) : EReal)) = ((mean 5242880 (flat hO hM (h b) g) : ℝ) : EReal) := by
    simp only [row x0 x1 h hh]
    exact mean_ext (flat hO hM (h b) g) pos
  clean_types
  pointwise [val_main_v47, val_main_v46, val_main_v45,val_main_v42, val_main_call0_v13, val_main_call0_v12, val_main_call0_v11,
    val_main_call0_v10, val_main_call0_v9,val_main_call0_v8,val_main_call0_v7,val_main_call0_v6, val_main_call0_v5,
    val_main_call0_v4, val_main_call0_v3, val_main_call0_v2, val_main_call0_v1, val_main_call0_v0, val_main_c_6, val_main_cst_7,
    val_main_call0_cst, val_main_call0_cst_0, val_main_call0_cst_1, val_main_call0_cst_2, val_main_call0_cst_3]
  simp only [ofBits_cnt64, ofBits_eps, sitofp_zero, sub_zero, hm, guard_ext pos]
  simp only [row x0 x1 h hh]
  exact dev_ext (flat hO hM (h b) g) pos

/-- One activated value. -/
theorem act_val (hh : ∀ b o n k, val_main_v36 x0 x1 (ix4 b o n k) = ((h b n k o : ℝ) : EReal))
    (hw : ∀ o, x2 (ix1 o) = (1 : EReal)) (hb : ∀ o, x3 (ix1 o) = (0 : EReal)) (b : Fin 4) (o : Fin 64) (n : Fin 2048) (k : Fin 80) :
    val_main_v57 x0 x1 x2 x3 (ix4 b o n k)
      = ((leaky ((h b n k o - mean 5242880 (grp hO (h b) (home hO o))) / dev 5242880 (grp hO (h b) (home hO o))) : ℝ) : EReal) := by
  clean_types
  pointwise [val_main_v57, val_main_v56,val_main_v55,val_main_v54,val_main_v53,val_main_v52,val_main_v51,val_main_v50,
    val_main_v49,val_main_v48, val_main_v44, val_main_v43, val_main_call1_v1, val_main_call1_v4, val_main_call1_v0, val_main_call1_v3,
    val_main_call1_v2, val_main_call1_cst, val_main_cst_8, val_main_v37]
  have hr : (⟨o.val / 32, by omega⟩ : Fin 2) = home hO o := rfl
  simp only [hw, hb, hh, mean_val x0 x1 h hh, dev_val x0 x1 h hh, unit_ext _ _ (dev_pos pos _).ne']
  rw [hr, mean_flat, dev_flat]
  refine Eq.trans ?_ (leaky_ext _)
  rw [← ofBits_slope]
  rfl

/-- The layer's output. -/
theorem out_val (hh : ∀ b o n k, val_main_v36 x0 x1 (ix4 b o n k) = ((h b n k o : ℝ) : EReal))
    (hw : ∀ o, x2 (ix1 o) = (1 : EReal)) (hb : ∀ o, x3 (ix1 o) = (0 : EReal)) (b : Fin 4) (o : Fin 64) (n : Fin 2048) :
    val_main_v58 x0 x1 x2 x3 (ix3 b o n) = ((layer hO 5242880 (h b) n o : ℝ) : EReal) := by
  clean_types
  pointwise [val_main_v58, val_main_cst_9]
  simp only [act_val x0 x1 x2 x3 h hh hw hb, ofBits_negInf]
  exact fold_leaky _ _ (dev_pos pos _)

end Cert.Ref1
-- ==== Proof.Ref.Layer2.lean ====
module

public import proofs.«01_k».proof.Proof.Gen.ReferenceIdeal.Read
public import proofs.«01_k».proof.Proof.Real.Extended
public import Idealize.ShloMosaic.Lib.Pointwise
public import Idealize.ShloMosaic.Lib.Tactic.CleanTypes

/-! The reference's second layer on finite features: its output is the real layer of `Real/Group`. -/

@[expose] public section

set_option maxRecDepth 16384

noncomputable section

open Idealize.ShloMosaic

namespace Cert.Ref2
open Cert.ReferenceIdeal Cert.ReferenceIdeal.Gen Cert.ReferenceIdeal.Read Cert.RealNorm Cert.Consts

variable (x0 : (⟨S4x3x2048, .f32⟩ : BufTy).Contents (Elt Ideal)) (x1 : (⟨S64x6, .f32⟩ : BufTy).Contents (Elt Ideal))
  (x2 x3 : (⟨S64, .f32⟩ : BufTy).Contents (Elt Ideal)) (x4 : (⟨S64x128, .f32⟩ : BufTy).Contents (Elt Ideal))
  (x5 x6 : (⟨S64, .f32⟩ : BufTy).Contents (Elt Ideal)) (h : Fin 4 → Fin 2048 → Fin 80 → Fin 64 → ℝ)

theorem hO : 2 * 32 = 64 := rfl
theorem pos : (0 : ℝ) < 5242880 := by norm_num
theorem hM : 32 * (2048 * 80) = 5242880 := rfl

/-- The row of a group. -/
theorem row (hh : ∀ b o n k, val_main_v95 x0 x1 x2 x3 x4 (ix4 b o n k) = ((h b n k o : ℝ) : EReal)) (b : Fin 4) (g : Fin 2)
    (x : Fin 5242880) : val_main_v96 x0 x1 x2 x3 x4 (ix3 b g x) = ((flat hO hM (h b) g x : ℝ) : EReal) := by
  clean_types
  pointwise [val_main_v96]
  rw [hh]
  exact congrArg _ (flat_eq hO hM (h b) g x rfl rfl rfl)

/-- The group's mean. -/
theorem mean_val (hh : ∀ b o n k, val_main_v95 x0 x1 x2 x3 x4 (ix4 b o n k) = ((h b n k o : ℝ) : EReal)) (b : Fin 4) (g : Fin 2) :
    val_main_v100 x0 x1 x2 x3 x4 (ix3 b g 0) = ((mean 5242880 (flat hO hM (h b) g) : ℝ) : EReal) := by
  clean_types
  pointwise [val_main_v100, val_main_v99, val_main_v98, val_main_v97, val_main_cst_18, val_main_cst_19]
  simp only [row x0 x1 x2 x3 x4 h hh, ofBits_cnt64]
  exact mean_ext (flat hO hM (h b) g) pos

/-- The group's stabilised deviation. -/
theorem dev_val (hh : ∀ b o n k, val_main_v95 x0 x1 x2 x3 x4 (ix4 b o n k) = ((h b n k o : ℝ) : EReal)) (b : Fin 4) (g : Fin 2) :
    val_main_v106 x0 x1 x2 x3 x4 (ix3 b g 0) = ((dev 5242880 (flat hO hM (h b) g) : ℝ) : EReal) := by
  have hm : Ideal.div (∑ x, val_main_v96 x0 x1 x2 x3 x4 (ix3 b g x)) (((5242880 : ℝ) : EReal)) = ((mean 5242880 (flat hO hM (h b) g) : ℝ) : EReal) := by
    simp only [row x0 x1 x2 x3 x4 h hh]
    exact mean_ext (flat hO hM (h b) g) pos
  clean_types
  pointwise [val_main_v106, val_main_v105, val_main_v104,val_main_v101, val_main_call2_v13, val_main_call2_v12, val_main_call2_v11,
    val_main_call2_v10, val_main_call2_v9,val_main_call2_v8,val_main_call2_v7,val_main_call2_v6, val_main_call2_v5,
    val_main_call2_v4, val_main_call2_v3, val_main_call2_v2, val_main_call2_v1, val_main_call2_v0, val_main_c_20, val_main_cst_21,
    val_main_call2_cst, val_main_call2_cst_0, val_main_call2_cst_1, val_main_call2_cst_2, val_main_call2_cst_3]
  simp only [ofBits_cnt64, ofBits_eps, sitofp_zero, sub_zero, hm, guard_ext pos]
  simp only [row x0 x1 x2 x3 x4 h hh]
  exact dev_ext (flat hO hM (h b) g) pos

/-- One activated value. -/
theorem act_val (hh : ∀ b o n k, val_main_v95 x0 x1 x2 x3 x4 (ix4 b o n k) = ((h b n k o : ℝ) : EReal))
    (hw : ∀ o, x5 (ix1 o) = (1 : EReal)) (hb : ∀ o, x6 (ix1 o) = (0 : EReal)) (b : Fin 4) (o : Fin 64) (n : Fin 2048) (k : Fin 80) :
    val_main_v116 x0 x1 x2 x3 x4 x5 x6 (ix4 b o n k)
      = ((leaky ((h b n k o - mean 5242880 (grp hO (h b) (home hO o))) / dev 5242880 (grp hO (h b) (home hO o))) : ℝ) : EReal) := by
  clean_types
  pointwise [val_main_v116, val_main_v115,val_main_v114,val_main_v113,val_main_v112,val_main_v111,val_main_v110,val_main_v109,
    val_main_v108,val_main_v107, val_main_v103, val_main_v102, val_main_call3_v1, val_main_call3_v4, val_main_call3_v0, val_main_call3_v3,
    val_main_call3_v2, val_main_call3_cst, val_main_cst_22, val_main_v96]
  have hr : (⟨o.val / 32, by omega⟩ : Fin 2) = home hO o := rfl
  simp only [hw, hb, hh, mean_val x0 x1 x2 x3 x4 h hh, dev_val x0 x1 x2 x3 x4 h hh, unit_ext _ _ (dev_pos pos _).ne']
  rw [hr, mean_flat, dev_flat]
  refine Eq.trans ?_ (leaky_ext _)
  rw [← ofBits_slope]
  rfl

/-- The layer's output. -/
theorem out_val (hh : ∀ b o n k, val_main_v95 x0 x1 x2 x3 x4 (ix4 b o n k) = ((h b n k o : ℝ) : EReal))
    (hw : ∀ o, x5 (ix1 o) = (1 : EReal)) (hb : ∀ o, x6 (ix1 o) = (0 : EReal)) (b : Fin 4) (o : Fin 64) (n : Fin 2048) :
    val_main_v117 x0 x1 x2 x3 x4 x5 x6 (ix3 b o n) = ((layer hO 5242880 (h b) n o : ℝ) : EReal) := by
  clean_types
  pointwise [val_main_v117, val_main_cst_23]
  simp only [act_val x0 x1 x2 x3 x4 x5 x6 h hh hw hb, ofBits_negInf]
  exact fold_leaky _ _ (dev_pos pos _)

end Cert.Ref2
-- ==== Proof.Ref.Layer3.lean ====
module

public import proofs.«01_k».proof.Proof.Gen.ReferenceIdeal.Read
public import proofs.«01_k».proof.Proof.Real.Extended
public import Idealize.ShloMosaic.Lib.Pointwise
public import Idealize.ShloMosaic.Lib.Tactic.CleanTypes

/-! The reference's third layer on finite features: its output is the real layer of `Real/Group`. -/

@[expose] public section

set_option maxRecDepth 16384

noncomputable section

open Idealize.ShloMosaic

namespace Cert.Ref3
open Cert.ReferenceIdeal Cert.ReferenceIdeal.Gen Cert.ReferenceIdeal.Read Cert.RealNorm Cert.Consts

variable (x0 : (⟨S4x3x2048, .f32⟩ : BufTy).Contents (Elt Ideal)) (x1 : (⟨S64x6, .f32⟩ : BufTy).Contents (Elt Ideal))
  (x2 x3 : (⟨S64, .f32⟩ : BufTy).Contents (Elt Ideal)) (x4 : (⟨S64x128, .f32⟩ : BufTy).Contents (Elt Ideal))
  (x5 x6 : (⟨S64, .f32⟩ : BufTy).Contents (Elt Ideal)) (x7 : (⟨S128x128, .f32⟩ : BufTy).Contents (Elt Ideal))
  (x8 x9 : (⟨S128, .f32⟩ : BufTy).Contents (Elt Ideal)) (h : Fin 4 → Fin 2048 → Fin 80 → Fin 128 → ℝ)

theorem hO : 2 * 64 = 128 := rfl
theorem pos : (0 : ℝ) < 10485760 := by norm_num
theorem hM : 64 * (2048 * 80) = 10485760 := rfl

/-- The row of a group. -/
theorem row (hh : ∀ b o n k, val_main_v154 x0 x1 x2 x3 x4 x5 x6 x7 (ix4 b o n k) = ((h b n k o : ℝ) : EReal)) (b : Fin 4) (g : Fin 2)
    (x : Fin 10485760) : val_main_v155 x0 x1 x2 x3 x4 x5 x6 x7 (ix3 b g x) = ((flat hO hM (h b) g x : ℝ) : EReal) := by
  clean_types
  pointwise [val_main_v155]
  rw [hh]
  exact congrArg _ (flat_eq hO hM (h b) g x rfl rfl rfl)

/-- The group's mean. -/
theorem mean_val (hh : ∀ b o n k, val_main_v154 x0 x1 x2 x3 x4 x5 x6 x7 (ix4 b o n k) = ((h b n k o : ℝ) : EReal)) (b : Fin 4) (g : Fin 2) :
    val_main_v159 x0 x1 x2 x3 x4 x5 x6 x7 (ix3 b g 0) = ((mean 10485760 (flat hO hM (h b) g) : ℝ) : EReal) := by
  clean_types
  pointwise [val_main_v159, val_main_v158, val_main_v157, val_main_v156, val_main_cst_32, val_main_cst_33]
  simp only [row x0 x1 x2 x3 x4 x5 x6 x7 h hh, ofBits_cnt128]
  exact mean_ext (flat hO hM (h b) g) pos

/-- The group's stabilised deviation. -/
theorem dev_val (hh : ∀ b o n k, val_main_v154 x0 x1 x2 x3 x4 x5 x6 x7 (ix4 b o n k) = ((h b n k o : ℝ) : EReal)) (b : Fin 4) (g : Fin 2) :
    val_main_v165 x0 x1 x2 x3 x4 x5 x6 x7 (ix3 b g 0) = ((dev 10485760 (flat hO hM (h b) g) : ℝ) : EReal) := by
  have hm : Ideal.div (∑ x, val_main_v155 x0 x1 x2 x3 x4 x5 x6 x7 (ix3 b g x)) (((10485760 : ℝ) : EReal)) = ((mean 10485760 (flat hO hM (h b) g) : ℝ) : EReal) := by
    simp only [row x0 x1 x2 x3 x4 x5 x6 x7 h hh]
    exact mean_ext (flat hO hM (h b) g) pos
  clean_types
  pointwise [val_main_v165, val_main_v164, val_main_v163,val_main_v160, val_main_call4_v13, val_main_call4_v12, val_main_call4_v11,
    val_main_call4_v10, val_main_call4_v9,val_main_call4_v8,val_main_call4_v7,val_main_call4_v6, val_main_call4_v5,
    val_main_call4_v4, val_main_call4_v3, val_main_call4_v2, val_main_call4_v1, val_main_call4_v0, val_main_c_34, val_main_cst_35,
    val_main_call4_cst, val_main_call4_cst_0, val_main_call4_cst_1, val_main_call4_cst_2, val_main_call4_cst_3]
  simp only [ofBits_cnt128, ofBits_eps, sitofp_zero, sub_zero, hm, guard_ext pos]
  simp only [row x0 x1 x2 x3 x4 x5 x6 x7 h hh]
  exact dev_ext (flat hO hM (h b) g) pos

/-- One activated value. -/
theorem act_val (hh : ∀ b o n k, val_main_v154 x0 x1 x2 x3 x4 x5 x6 x7 (ix4 b o n k) = ((h b n k o : ℝ) : EReal))
    (hw : ∀ o, x8 (ix1 o) = (1 : EReal)) (hb : ∀ o, x9 (ix1 o) = (0 : EReal)) (b : Fin 4) (o : Fin 128) (n : Fin 2048) (k : Fin 80) :
    val_main_v175 x0 x1 x2 x3 x4 x5 x6 x7 x8 x9 (ix4 b o n k)
      = ((leaky ((h b n k o - mean 10485760 (grp hO (h b) (home hO o))) / dev 10485760 (grp hO (h b) (home hO o))) : ℝ) : EReal) := by
  clean_types
  pointwise [val_main_v175, val_main_v174,val_main_v173,val_main_v172,val_main_v171,val_main_v170,val_main_v169,val_main_v168,
    val_main_v167,val_main_v166, val_main_v162, val_main_v161, val_main_call5_v1, val_main_call5_v4, val_main_call5_v0, val_main_call5_v3,
    val_main_call5_v2, val_main_call5_cst, val_main_cst_36, val_main_v155]
  have hr : (⟨o.val / 64, by omega⟩ : Fin 2) = home hO o := rfl
  simp only [hw, hb, hh, mean_val x0 x1 x2 x3 x4 x5 x6 x7 h hh, dev_val x0 x1 x2 x3 x4 x5 x6 x7 h hh, unit_ext _ _ (dev_pos pos _).ne']
  rw [hr, mean_flat, dev_flat]
  refine Eq.trans ?_ (leaky_ext _)
  rw [← ofBits_slope]
  rfl

/-- The layer's output. -/
theorem out_val (hh : ∀ b o n k, val_main_v154 x0 x1 x2 x3 x4 x5 x6 x7 (ix4 b o n k) = ((h b n k o : ℝ) : EReal))
    (hw : ∀ o, x8 (ix1 o) = (1 : EReal)) (hb : ∀ o, x9 (ix1 o) = (0 : EReal)) (b : Fin 4) (o : Fin 128) (n : Fin 2048) :
    val_main_v176 x0 x1 x2 x3 x4 x5 x6 x7 x8 x9 (ix3 b o n) = ((layer hO 10485760 (h b) n o : ℝ) : EReal) := by
  clean_types
  pointwise [val_main_v176, val_main_cst_37]
  simp only [act_val x0 x1 x2 x3 x4 x5 x6 x7 x8 x9 h hh hw hb, ofBits_negInf]
  exact fold_leaky _ _ (dev_pos pos _)

end Cert.Ref3
-- ==== Proof.Ref.Edges.lean ====
module

public import proofs.«01_k».proof.Proof.Gen.ReferenceIdeal.Read
public import proofs.«01_k».proof.Proof.Real.Extended
public import Idealize.ShloMosaic.Lib.Pointwise
public import Idealize.ShloMosaic.Lib.Tactic.CleanTypes

/-! The reference's edge features times the weights, entry by entry. -/

@[expose] public section

set_option maxRecDepth 16384

noncomputable section

open Idealize.ShloMosaic

namespace Cert.RefEdges
open Cert.ReferenceIdeal Cert.ReferenceIdeal.Gen Cert.ReferenceIdeal.Read

variable (x0 : (⟨S4x3x2048, .f32⟩ : BufTy).Contents (Elt Ideal)) (x1 : (⟨S64x6, .f32⟩ : BufTy).Contents (Elt Ideal))
  (x2 x3 : (⟨S64, .f32⟩ : BufTy).Contents (Elt Ideal)) (x4 : (⟨S64x128, .f32⟩ : BufTy).Contents (Elt Ideal))
  (x5 x6 : (⟨S64, .f32⟩ : BufTy).Contents (Elt Ideal)) (x7 : (⟨S128x128, .f32⟩ : BufTy).Contents (Elt Ideal))

theorem first (b : Fin 4) (o : Fin 64) (n : Fin 2048) (k : Fin 80) :
    (val_main_v36 x0 x1 (ix4 b o n k) : EReal) = ∑ c : Fin 6, (x1 (ix2 o c) : EReal) * (val_main_v33 x0 (ix4 b n k c) : EReal) := by
  clean_types
  pointwise [val_main_v36, val_main_v35, val_main_v34]

theorem second (b : Fin 4) (o : Fin 64) (n : Fin 2048) (k : Fin 80) :
    (val_main_v95 x0 x1 x2 x3 x4 (ix4 b o n k) : EReal)
      = ∑ c : Fin 128, (x4 (ix2 o c) : EReal) * (val_main_v92 x0 x1 x2 x3 (ix4 b n k c) : EReal) := by
  clean_types
  pointwise [val_main_v95, val_main_v94, val_main_v93]

theorem third (b : Fin 4) (o : Fin 128) (n : Fin 2048) (k : Fin 80) :
    (val_main_v154 x0 x1 x2 x3 x4 x5 x6 x7 (ix4 b o n k) : EReal)
      = ∑ c : Fin 128, (x7 (ix2 o c) : EReal) * (val_main_v151 x0 x1 x2 x3 x4 x5 x6 (ix4 b n k c) : EReal) := by
  clean_types
  pointwise [val_main_v154, val_main_v153, val_main_v152]

end Cert.RefEdges
-- ==== Proof.Ref.Head.lean ====
module

public import proofs.«01_k».proof.Proof.Gen.ReferenceIdeal.Read
public import proofs.«01_k».proof.Proof.Real.Extended
public import Idealize.ShloMosaic.Lib.Pointwise
public import Idealize.ShloMosaic.Lib.Tactic.CleanTypes

/-! The reference's last layer on finite values: its output is the real head of `Real/Group`; and its
   value before the normalisation, entry by entry. -/

@[expose] public section

set_option maxRecDepth 16384

noncomputable section

open Idealize.ShloMosaic

namespace Cert.RefHead
open Cert.ReferenceIdeal Cert.ReferenceIdeal.Gen Cert.ReferenceIdeal.Read Cert.RealNorm Cert.Consts

variable (x0 : (⟨S4x3x2048, .f32⟩ : BufTy).Contents (Elt Ideal)) (x1 : (⟨S64x6, .f32⟩ : BufTy).Contents (Elt Ideal))
  (x2 x3 : (⟨S64, .f32⟩ : BufTy).Contents (Elt Ideal)) (x4 : (⟨S64x128, .f32⟩ : BufTy).Contents (Elt Ideal))
  (x5 x6 : (⟨S64, .f32⟩ : BufTy).Contents (Elt Ideal)) (x7 : (⟨S128x128, .f32⟩ : BufTy).Contents (Elt Ideal))
  (x8 x9 : (⟨S128, .f32⟩ : BufTy).Contents (Elt Ideal)) (x10 : (⟨S1024x256, .f32⟩ : BufTy).Contents (Elt Ideal))
  (x11 x12 x13 : (⟨S1024, .f32⟩ : BufTy).Contents (Elt Ideal)) (y : Fin 4 → Fin 2048 → Fin 1024 → ℝ)

theorem hO : 8 * 128 = 1024 := rfl
theorem pos : (0 : ℝ) < 262144 := by norm_num
theorem hM : 128 * 2048 = 262144 := rfl

/-- The value before the normalisation. -/
theorem lin_val (b : Fin 4) (o : Fin 1024) (n : Fin 2048) :
    (val_main_v182 x0 x1 x2 x3 x4 x5 x6 x7 x8 x9 x10 x11 (ix3 b o n) : EReal)
      = (∑ c : Fin 256, (x10 (ix2 o c) : EReal) * (val_main_v177 x0 x1 x2 x3 x4 x5 x6 x7 x8 x9 (ix3 b c n) : EReal)) + (x11 (ix1 o) : EReal) := by
  clean_types
  pointwise [val_main_v182, val_main_v181, val_main_v180, val_main_v179, val_main_v178]

/-- The row of a group. -/
theorem row (hh : ∀ b o n, val_main_v182 x0 x1 x2 x3 x4 x5 x6 x7 x8 x9 x10 x11 (ix3 b o n) = ((y b n o : ℝ) : EReal)) (b : Fin 4)
    (g : Fin 8) (x : Fin 262144) :
    val_main_v183 x0 x1 x2 x3 x4 x5 x6 x7 x8 x9 x10 x11 (ix3 b g x) = ((flatRow hO hM (y b) g x : ℝ) : EReal) := by
  clean_types
  pointwise [val_main_v183]
  rw [hh]
  exact congrArg _ (flatRow_eq hO hM (y b) g x rfl rfl)

/-- The group's mean. -/
theorem mean_val (hh : ∀ b o n, val_main_v182 x0 x1 x2 x3 x4 x5 x6 x7 x8 x9 x10 x11 (ix3 b o n) = ((y b n o : ℝ) : EReal)) (b : Fin 4)
    (g : Fin 8) :
    val_main_v187 x0 x1 x2 x3 x4 x5 x6 x7 x8 x9 x10 x11 (ix3 b g 0) = ((mean 262144 (flatRow hO hM (y b) g) : ℝ) : EReal) := by
  clean_types
  pointwise [val_main_v187, val_main_v186, val_main_v185, val_main_v184, val_main_cst_38, val_main_cst_39]
  simp only [row x0 x1 x2 x3 x4 x5 x6 x7 x8 x9 x10 x11 y hh, ofBits_cntMlp]
  exact mean_ext (flatRow hO hM (y b) g) pos

/-- The group's stabilised deviation. -/
theorem dev_val (hh : ∀ b o n, val_main_v182 x0 x1 x2 x3 x4 x5 x6 x7 x8 x9 x10 x11 (ix3 b o n) = ((y b n o : ℝ) : EReal)) (b : Fin 4)
    (g : Fin 8) :
    val_main_v193 x0 x1 x2 x3 x4 x5 x6 x7 x8 x9 x10 x11 (ix3 b g 0) = ((dev 262144 (flatRow hO hM (y b) g) : ℝ) : EReal) := by
  have hm : Ideal.div (∑ x, val_main_v183 x0 x1 x2 x3 x4 x5 x6 x7 x8 x9 x10 x11 (ix3 b g x)) (((262144 : ℝ) : EReal))
      = ((mean 262144 (flatRow hO hM (y b) g) : ℝ) : EReal) := by
    simp only [row x0 x1 x2 x3 x4 x5 x6 x7 x8 x9 x10 x11 y hh]
    exact mean_ext (flatRow hO hM (y b) g) pos
  clean_types
  pointwise [val_main_v193, val_main_v192, val_main_v191, val_main_v188, val_main_call6_v13, val_main_call6_v12, val_main_call6_v11,
    val_main_call6_v10, val_main_call6_v9, val_main_call6_v8, val_main_call6_v7, val_main_call6_v6, val_main_call6_v5,
    val_main_call6_v4, val_main_call6_v3, val_main_call6_v2, val_main_call6_v1, val_main_call6_v0, val_main_c_40, val_main_cst_41,
    val_main_call6_cst, val_main_call6_cst_0, val_main_call6_cst_1, val_main_call6_cst_2, val_main_call6_cst_3]
  simp only [ofBits_cntMlp, ofBits_eps, sitofp_zero, sub_zero, hm, guard_ext pos]
  simp only [row x0 x1 x2 x3 x4 x5 x6 x7 x8 x9 x10 x11 y hh]
  exact dev_ext (flatRow hO hM (y b) g) pos

/-- One value after the normalisation and the cut at zero. -/
theorem act_val (hh : ∀ b o n, val_main_v182 x0 x1 x2 x3 x4 x5 x6 x7 x8 x9 x10 x11 (ix3 b o n) = ((y b n o : ℝ) : EReal))
    (hw : ∀ o, x12 (ix1 o) = (1 : EReal)) (hb : ∀ o, x13 (ix1 o) = (0 : EReal)) (b : Fin 4) (o : Fin 1024) (n : Fin 2048) :
    val_main_v203 x0 x1 x2 x3 x4 x5 x6 x7 x8 x9 x10 x11 x12 x13 (ix3 b o n)
      = ((max ((y b n o - mean 262144 (grpRow hO (y b) (home hO o))) / dev 262144 (grpRow hO (y b) (home hO o))) 0 : ℝ) : EReal) := by
  clean_types
  pointwise [val_main_v203, val_main_v202, val_main_v201, val_main_v200, val_main_v199, val_main_v198, val_main_v197, val_main_v196,
    val_main_v195, val_main_v194, val_main_v190, val_main_v189, val_main_call7_v0, val_main_call7_cst, val_main_v183]
  have hr : (⟨o.val / 128, by omega⟩ : Fin 8) = home hO o := rfl
  simp only [hw, hb, hh, mean_val x0 x1 x2 x3 x4 x5 x6 x7 x8 x9 x10 x11 y hh, dev_val x0 x1 x2 x3 x4 x5 x6 x7 x8 x9 x10 x11 y hh,
    unit_ext _ _ (dev_pos pos _).ne']
  rw [hr, mean_flatRow, dev_flatRow]
  exact relu_ext _

/-- The head's output. -/
theorem out_val (hh : ∀ b o n, val_main_v182 x0 x1 x2 x3 x4 x5 x6 x7 x8 x9 x10 x11 (ix3 b o n) = ((y b n o : ℝ) : EReal))
    (hw : ∀ o, x12 (ix1 o) = (1 : EReal)) (hb : ∀ o, x13 (ix1 o) = (0 : EReal)) (b : Fin 4) (o : Fin 1024) :
    val_main_v204 x0 x1 x2 x3 x4 x5 x6 x7 x8 x9 x10 x11 x12 x13 (ix2 b o) = ((head hO 262144 (y b) o : ℝ) : EReal) := by
  clean_types
  pointwise [val_main_v204, val_main_cst_42]
  simp only [act_val x0 x1 x2 x3 x4 x5 x6 x7 x8 x9 x10 x11 x12 x13 y hh hw hb, ofBits_negInf]
  exact fold_relu _ _ (dev_pos pos _)

end Cert.RefHead
-- ==== Proof.Ref.Features.lean ====
module

public import proofs.«01_k».proof.Proof.Gen.ReferenceIdeal.Read
public import proofs.«01_k».proof.Proof.Kern.Edges

/-! The reference's edge features, written with the kernel's operations. -/

@[expose] public section

set_option maxRecDepth 16384

noncomputable section

open Idealize.ShloMosaic Idealize.ShloMosaic.TcCoe

namespace Cert.RefFeatures
open Cert.ReferenceIdeal Cert.ReferenceIdeal.Read

theorem first (x0 : (⟨S4x3x2048, .f32⟩ : BufTy).Contents (Elt Ideal)) :
    val_main_v33 (F := Ideal) x0 = Cert.Edges.narrow (val_main_v12 (F := Ideal) x0) (val_main_v11 (F := Ideal) x0) := by
  unfold val_main_v33 val_main_v32 val_main_v31 val_main_v30 val_main_v29 val_main_v28 val_main_v27
  rfl

theorem second (x0 : (⟨S4x3x2048, .f32⟩ : BufTy).Contents (Elt Ideal)) (x1 : (⟨S64x6, .f32⟩ : BufTy).Contents (Elt Ideal))
    (x2 x3 : (⟨S64, .f32⟩ : BufTy).Contents (Elt Ideal)) :
    val_main_v92 (F := Ideal) x0 x1 x2 x3
      = Cert.Edges.wide (val_main_v71 (F := Ideal) x0 x1 x2 x3) (val_main_v70 (F := Ideal) x0 x1 x2 x3) := by
  unfold val_main_v92 val_main_v91 val_main_v90 val_main_v89 val_main_v88 val_main_v87 val_main_v86
  rfl

theorem third (x0 : (⟨S4x3x2048, .f32⟩ : BufTy).Contents (Elt Ideal)) (x1 : (⟨S64x6, .f32⟩ : BufTy).Contents (Elt Ideal))
    (x2 x3 : (⟨S64, .f32⟩ : BufTy).Contents (Elt Ideal)) (x4 : (⟨S64x128, .f32⟩ : BufTy).Contents (Elt Ideal))
    (x5 x6 : (⟨S64, .f32⟩ : BufTy).Contents (Elt Ideal)) :
    val_main_v151 (F := Ideal) x0 x1 x2 x3 x4 x5 x6
      = Cert.Edges.wide (val_main_v130 (F := Ideal) x0 x1 x2 x3 x4 x5 x6) (val_main_v129 (F := Ideal) x0 x1 x2 x3 x4 x5 x6) := by
  unfold val_main_v151 val_main_v150 val_main_v149 val_main_v148 val_main_v147 val_main_v146 val_main_v145
  rfl

end Cert.RefFeatures
-- ==== Proof.Ref.Join.lean ====
module

public import proofs.«01_k».proof.Proof.Gen.ReferenceIdeal.Read
public import proofs.«01_k».proof.Proof.Kern.Turn

/-! The reference's joined features: the kernel's, with channels before rows. -/

@[expose] public section

set_option maxRecDepth 16384
set_option maxHeartbeats 1000000

noncomputable section

open Idealize.ShloMosaic Idealize.ShloMosaic.TcCoe

namespace Cert.RefJoin
open Cert.ReferenceIdeal Cert.ReferenceIdeal.Read Cert.ReferenceIdeal.Gen

/-- Channels turned into rows. -/
theorem turn (u : FVec Ideal S4x64x2048 .f32) (b : Fin 4) (n : Fin 2048) (k : Fin 64) :
    transpose S4x2048x64 [0, 2, 1] u transposes_S4x64x2048_S4x2048x64_0_2_1 (ix3 b n k) = u (ix3 b k n) := by
  clean_types
  pointwise []

/-- Three arrays of channels, one after another. -/
def stacked (y1 y2 : FVec Ideal S4x64x2048 .f32) (y3 : FVec Ideal S4x128x2048 .f32) : FVec Ideal S4x256x2048 .f32 :=
  concatenate S4x256x2048 1 [⟨S4x64x2048, y1⟩, ⟨S4x64x2048, y2⟩, ⟨S4x128x2048, y3⟩] concatenates_S4x64x2048_S4x64x2048_S4x128x2048_S4x256x2048_d1

theorem stacked_at (y1 y2 : FVec Ideal S4x64x2048 .f32) (y3 : FVec Ideal S4x128x2048 .f32) (b : Fin 4) (n : Fin 2048) (k : Fin 256) :
    stacked y1 y2 y3 (ix3 b k n)
      = if h : k.val < 64 then y1 (ix3 b ⟨k.val, h⟩ n)
        else if h : k.val - 64 < 64 then y2 (ix3 b ⟨k.val - 64, h⟩ n) else y3 (ix3 b ⟨k.val - 64 - 64, by omega⟩ n) := by
  clean_types
  pointwise [stacked]

/-- Rows beside one another against channels one after another. -/
theorem joined_eq (x1 x2 : FVec Ideal S4x2048x64 .f32) (x3 : FVec Ideal Cert.KernelIdeal.S4x2048x128 .f32)
    (y1 y2 : FVec Ideal S4x64x2048 .f32) (y3 : FVec Ideal S4x128x2048 .f32)
    (h1 : ∀ b n k, x1 (ix3 b n k) = y1 (ix3 b k n)) (h2 : ∀ b n k, x2 (ix3 b n k) = y2 (ix3 b k n))
    (h3 : ∀ b n k, x3 (ix3 b n k) = y3 (ix3 b k n)) (b : Fin 4) (n : Fin 2048) (k : Fin 256) :
    Cert.Ends.joined x1 x2 x3 (ix3 b n k) = stacked y1 y2 y3 (ix3 b k n) := by
  rw [Cert.Turn.joined_at, stacked_at]
  simp only [h1, h2, h3]

/-- Joined real features are real. -/
theorem stacked_isReal (y1 y2 : FVec Ideal S4x64x2048 .f32) (y3 : FVec Ideal S4x128x2048 .f32)
    (h1 : ∀ j, Cert.Edges.IsReal (y1 j)) (h2 : ∀ j, Cert.Edges.IsReal (y2 j)) (h3 : ∀ j, Cert.Edges.IsReal (y3 j))
    (b : Fin 4) (n : Fin 2048) (k : Fin 256) : Cert.Edges.IsReal (stacked y1 y2 y3 (ix3 b k n)) := by
  rw [stacked_at]
  split_ifs
  · exact h1 _
  · exact h2 _
  · exact h3 _

theorem features (x0 : (⟨S4x3x2048, .f32⟩ : BufTy).Contents (Elt Ideal)) (x1 : (⟨S64x6, .f32⟩ : BufTy).Contents (Elt Ideal))
    (x2 x3 : (⟨S64, .f32⟩ : BufTy).Contents (Elt Ideal)) (x4 : (⟨S64x128, .f32⟩ : BufTy).Contents (Elt Ideal))
    (x5 x6 : (⟨S64, .f32⟩ : BufTy).Contents (Elt Ideal)) (x7 : (⟨S128x128, .f32⟩ : BufTy).Contents (Elt Ideal))
    (x8 x9 : (⟨S128, .f32⟩ : BufTy).Contents (Elt Ideal)) :
    val_main_v177 (F := Ideal) x0 x1 x2 x3 x4 x5 x6 x7 x8 x9
      = stacked (val_main_v58 (F := Ideal) x0 x1 x2 x3) (val_main_v117 (F := Ideal) x0 x1 x2 x3 x4 x5 x6)
          (val_main_v176 (F := Ideal) x0 x1 x2 x3 x4 x5 x6 x7 x8 x9) := rfl

end Cert.RefJoin
-- ==== Proof.Ref.Chain.lean ====
module

public import proofs.«01_k».proof.Proof.Ref.Layer1
public import proofs.«01_k».proof.Proof.Ref.Layer2
public import proofs.«01_k».proof.Proof.Ref.Layer3
public import proofs.«01_k».proof.Proof.Ref.Edges
public import proofs.«01_k».proof.Proof.Ref.Head
public import proofs.«01_k».proof.Proof.Ref.Features
public import proofs.«01_k».proof.Proof.Ref.Join

/-! The reference over real inputs with unit norms: every layer has real values, each the layer of the ones before. -/

@[expose] public section

set_option maxRecDepth 16384
set_option maxHeartbeats 1000000

noncomputable section

open Idealize.ShloMosaic Idealize.ShloMosaic.TcCoe

namespace Cert.RefChain
open Cert.ReferenceIdeal Cert.ReferenceIdeal.Read Cert.RealNorm Cert.Edges

variable (x0 : Vec Ideal S4x3x2048 .f32) (x1 : Vec Ideal S64x6 .f32) (x2 x3 : Vec Ideal S64 .f32)
  (x4 : Vec Ideal S64x128 .f32) (x5 x6 : Vec Ideal S64 .f32) (x7 : Vec Ideal S128x128 .f32) (x8 x9 : Vec Ideal S128 .f32)
  (x10 : Vec Ideal S1024x256 .f32) (x11 x12 x13 : Vec Ideal S1024 .f32)

/-- A real ideal number is its own real value. -/
theorem coe_of {x : EReal} (h : IsReal x) : x = ((x.toReal : ℝ) : EReal) := by
  obtain ⟨r, rfl⟩ := h
  rfl

/-- The inputs that the maths multiplies and adds are real, and every norm's scale is one and its shift zero. -/
structure Plain : Prop where
  r0 : ∀ j, IsReal (x0 j)
  r1 : ∀ j, IsReal (x1 j)
  r4 : ∀ j, IsReal (x4 j)
  r7 : ∀ j, IsReal (x7 j)
  r10 : ∀ j, IsReal (x10 j)
  r11 : ∀ j, IsReal (x11 j)
  w2 : ∀ o, x2 (ix1 o) = (1 : EReal)
  w5 : ∀ o, x5 (ix1 o) = (1 : EReal)
  w8 : ∀ o, x8 (ix1 o) = (1 : EReal)
  w12 : ∀ o, x12 (ix1 o) = (1 : EReal)
  b3 : ∀ o, x3 (ix1 o) = (0 : EReal)
  b6 : ∀ o, x6 (ix1 o) = (0 : EReal)
  b9 : ∀ o, x9 (ix1 o) = (0 : EReal)
  b13 : ∀ o, x13 (ix1 o) = (0 : EReal)

/-! ### The real edge values -/

def e1 (b : Fin 4) (n : Fin 2048) (k : Fin 80) (o : Fin 64) : ℝ := EReal.toReal (val_main_v36 x0 x1 (ix4 b o n k))
def e2 (b : Fin 4) (n : Fin 2048) (k : Fin 80) (o : Fin 64) : ℝ := EReal.toReal (val_main_v95 x0 x1 x2 x3 x4 (ix4 b o n k))
def e3 (b : Fin 4) (n : Fin 2048) (k : Fin 80) (o : Fin 128) : ℝ := EReal.toReal (val_main_v154 x0 x1 x2 x3 x4 x5 x6 x7 (ix4 b o n k))
def y (b : Fin 4) (n : Fin 2048) (o : Fin 1024) : ℝ := EReal.toReal (val_main_v182 x0 x1 x2 x3 x4 x5 x6 x7 x8 x9 x10 x11 (ix3 b o n))

variable {x0 x1 x2 x3 x4 x5 x6 x7 x8 x9 x10 x11 x12 x13}
variable (H : Plain x0 x1 x2 x3 x4 x5 x6 x7 x8 x9 x10 x11 x12 x13)

include H

theorem edge1 (b : Fin 4) (o : Fin 64) (n : Fin 2048) (k : Fin 80) :
    val_main_v36 x0 x1 (ix4 b o n k) = ((e1 x0 x1 b n k o : ℝ) : EReal) := by
  refine coe_of ?_
  rw [RefEdges.first, RefFeatures.first]
  exact isReal_sum _ _ fun c => isReal_mul (H.r1 _) (narrow_isReal _ _ (fun j => by rw [val_main_v12_apply]; exact H.r0 _) _)

theorem out1 (b : Fin 4) (o : Fin 64) (n : Fin 2048) :
    val_main_v58 x0 x1 x2 x3 (ix3 b o n) = ((layer Ref1.hO 5242880 (e1 x0 x1 b) n o : ℝ) : EReal) :=
  Ref1.out_val x0 x1 x2 x3 _ (edge1 H) H.w2 H.b3 b o n

theorem isReal1 (j : S4x64x2048.Idx) : IsReal (val_main_v58 x0 x1 x2 x3 j) := by
  rw [eq_ix3 j]
  exact ⟨_, out1 H _ _ _⟩

theorem edge2 (b : Fin 4) (o : Fin 64) (n : Fin 2048) (k : Fin 80) :
    val_main_v95 x0 x1 x2 x3 x4 (ix4 b o n k) = ((e2 x0 x1 x2 x3 x4 b n k o : ℝ) : EReal) := by
  refine coe_of ?_
  rw [RefEdges.second, RefFeatures.second]
  exact isReal_sum _ _ fun c => isReal_mul (H.r4 _) (wide_isReal _ _ (fun j => by rw [val_main_v71_apply]; exact isReal1 H _) _)

theorem out2 (b : Fin 4) (o : Fin 64) (n : Fin 2048) :
    val_main_v117 x0 x1 x2 x3 x4 x5 x6 (ix3 b o n) = ((layer Ref2.hO 5242880 (e2 x0 x1 x2 x3 x4 b) n o : ℝ) : EReal) :=
  Ref2.out_val x0 x1 x2 x3 x4 x5 x6 _ (edge2 H) H.w5 H.b6 b o n

theorem isReal2 (j : S4x64x2048.Idx) : IsReal (val_main_v117 x0 x1 x2 x3 x4 x5 x6 j) := by
  rw [eq_ix3 j]
  exact ⟨_, out2 H _ _ _⟩

theorem edge3 (b : Fin 4) (o : Fin 128) (n : Fin 2048) (k : Fin 80) :
    val_main_v154 x0 x1 x2 x3 x4 x5 x6 x7 (ix4 b o n k) = ((e3 x0 x1 x2 x3 x4 x5 x6 x7 b n k o : ℝ) : EReal) := by
  refine coe_of ?_
  rw [RefEdges.third, RefFeatures.third]
  exact isReal_sum _ _ fun c => isReal_mul (H.r7 _) (wide_isReal _ _ (fun j => by rw [val_main_v130_apply]; exact isReal2 H _) _)

theorem out3 (b : Fin 4) (o : Fin 128) (n : Fin 2048) :
    val_main_v176 x0 x1 x2 x3 x4 x5 x6 x7 x8 x9 (ix3 b o n) = ((layer Ref3.hO 10485760 (e3 x0 x1 x2 x3 x4 x5 x6 x7 b) n o : ℝ) : EReal) :=
  Ref3.out_val x0 x1 x2 x3 x4 x5 x6 x7 x8 x9 _ (edge3 H) H.w8 H.b9 b o n

theorem isReal3 (j : S4x128x2048.Idx) : IsReal (val_main_v176 x0 x1 x2 x3 x4 x5 x6 x7 x8 x9 j) := by
  rw [eq_ix3 j]
  exact ⟨_, out3 H _ _ _⟩

theorem lin (b : Fin 4) (o : Fin 1024) (n : Fin 2048) :
    val_main_v182 x0 x1 x2 x3 x4 x5 x6 x7 x8 x9 x10 x11 (ix3 b o n)
      = ((y x0 x1 x2 x3 x4 x5 x6 x7 x8 x9 x10 x11 b n o : ℝ) : EReal) := by
  refine coe_of ?_
  rw [RefHead.lin_val, RefJoin.features]
  exact isReal_add (isReal_sum _ _ fun c => isReal_mul (H.r10 _)
    (RefJoin.stacked_isReal _ _ _ (isReal1 H) (isReal2 H) (isReal3 H) b n c)) (H.r11 _)

theorem out4 (b : Fin 4) (o : Fin 1024) :
    val_main_v204 x0 x1 x2 x3 x4 x5 x6 x7 x8 x9 x10 x11 x12 x13 (ix2 b o)
      = ((head RefHead.hO 262144 (y x0 x1 x2 x3 x4 x5 x6 x7 x8 x9 x10 x11 b) o : ℝ) : EReal) :=
  RefHead.out_val x0 x1 x2 x3 x4 x5 x6 x7 x8 x9 x10 x11 x12 x13 _ (lin H) H.w12 H.b13 b o

end Cert.RefChain
-- ==== Proof.Kern.Chain1.lean ====
module

public import proofs.«01_k».proof.Proof.Kern.Dist1
public import proofs.«01_k».proof.Proof.Kern.Layer1
public import proofs.«01_k».proof.Proof.Kern.Stats
public import proofs.«01_k».proof.Proof.Kern.Turn
public import proofs.«01_k».proof.Proof.Ref.Gap
public import proofs.«01_k».proof.Proof.Ref.Chain

/-! The kernel's first layer: its rows are the reference's. -/

@[expose] public section

set_option maxRecDepth 16384
set_option maxHeartbeats 1000000

noncomputable section

open Idealize.ShloMosaic Idealize.ShloMosaic.TcCoe

namespace Cert.KernChain
open Cert.KernelIdeal Cert.KernelIdeal.Gen Cert.RealNorm Cert.Consts

variable (m : (ℓ : Loc nD τ sig) → Buf (Elt Ideal) ℓ) (ρ : Dev nD → PrngReg) (c : Dev nD)

/-! ### The arguments -/

abbrev a0 : Vec Ideal S4x3x2048 .f32 := m ((c.tc : Thread nD τ).loc main_arg0)
abbrev a1 : Vec Ideal S64x6 .f32 := m ((c.tc : Thread nD τ).loc main_arg1)
abbrev a2 : Vec Ideal S64 .f32 := m ((c.tc : Thread nD τ).loc main_arg2)
abbrev a3 : Vec Ideal S64 .f32 := m ((c.tc : Thread nD τ).loc main_arg3)
abbrev a4 : Vec Ideal S64x128 .f32 := m ((c.tc : Thread nD τ).loc main_arg4)
abbrev a5 : Vec Ideal S64 .f32 := m ((c.tc : Thread nD τ).loc main_arg5)
abbrev a6 : Vec Ideal S64 .f32 := m ((c.tc : Thread nD τ).loc main_arg6)
abbrev a7 : Vec Ideal S128x128 .f32 := m ((c.tc : Thread nD τ).loc main_arg7)
abbrev a8 : Vec Ideal S128 .f32 := m ((c.tc : Thread nD τ).loc main_arg8)
abbrev a9 : Vec Ideal S128 .f32 := m ((c.tc : Thread nD τ).loc main_arg9)
abbrev a10 : Vec Ideal S1024x256 .f32 := m ((c.tc : Thread nD τ).loc main_arg10)
abbrev a11 : Vec Ideal S1024 .f32 := m ((c.tc : Thread nD τ).loc main_arg11)
abbrev a12 : Vec Ideal S1024 .f32 := m ((c.tc : Thread nD τ).loc main_arg12)
abbrev a13 : Vec Ideal S1024 .f32 := m ((c.tc : Thread nD τ).loc main_arg13)

/-- The launched arguments are real where the maths needs it and the norms are unit norms. -/
abbrev Plain : Prop :=
  RefChain.Plain (a0 m c) (a1 m c) (a2 m c) (a3 m c) (a4 m c) (a5 m c) (a6 m c) (a7 m c) (a8 m c) (a9 m c) (a10 m c) (a11 m c) (a12 m c) (a13 m c)

/-- The transposed points at every later boundary. -/
theorem points1 : W1 m ρ c (Proc.devRef .tc main_v0) = Cert.ReferenceIdeal.Read.val_main_v12 (F := Ideal) (a0 m c) :=
  Ends.rows (W0 m ρ c)

theorem points2 : W2 m ρ c (Proc.devRef .tc main_v0) = Cert.ReferenceIdeal.Read.val_main_v12 (F := Ideal) (a0 m c) :=
  (W2_of m ρ c main_v0 (by decide +kernel)).trans (points1 m ρ c)

/-- The first table of pairs. -/
theorem pairs1 : W2 m ρ c (Proc.devRef .tc main_v7_0) = Cert.ReferenceIdeal.Read.val_main_v11 (F := Ideal) (a0 m c) := by
  refine (W2_arr m ρ c 4).trans ((Dist1.region (V1 m ρ) c).trans ?_)
  have e0 : V1 m ρ c main_v0 = transpose S4x2048x3 [0, 2, 1] (a0 m c) transposes_S4x3x2048_S4x2048x3_0_2_1 := Ends.rows (W0 m ρ c)
  have e1 : V1 m ρ c main_arg0 = a0 m c := W1_args m ρ c main_arg0 (by decide)
  rw [e0, e1]
  funext z
  rw [eq_ix3 z]
  exact (Gap.narrow_at _ _ (fun b n k => (a0 m c (ix3 b k n) : EReal)) (fun b n k => Turn.rows_at _ b n k) (fun b n k => rfl) _ _ _).trans
    (Cert.RefGap.first (a0 m c) _ _ _).symm

/-- The first layer's edge values. -/
theorem edges1 (H : Plain m c) (b : Fin 4) (n : Fin 2048) (k : Fin 80) (o : Fin 64) :
    (Stretch.edge1 (W2 m ρ c) (ix4 b n k o) : EReal) = ((RefChain.e1 (a0 m c) (a1 m c) b n k o : ℝ) : EReal) := by
  rw [← RefChain.edge1 H, RefEdges.first, RefFeatures.first, Stretch.edge1, Stretch.lin6_at, points2, pairs1,
    show W2 m ρ c (Proc.devRef .tc main_arg1) = a1 m c from W2_args m ρ c main_arg1 (by decide)]
  exact Finset.sum_congr rfl fun k _ => mul_comm _ _

/-- The first layer's rows. -/
theorem rows1 (H : Plain m c) : W4 m ρ c (Proc.devRef .tc main_v35) = Layer1.values (RefChain.e1 (a0 m c) (a1 m c)) := by
  refine (W4_arr m ρ c 4).trans (Layer1.region (V3 m ρ) c _ ?_ ?_ ?_ ?_)
  · exact fun b n o => (congrFun (Stretch.most1 (W2 m ρ c)) _).trans (Stats.most64 _ _ (edges1 m ρ c H) b n o)
  · exact fun b n o => (congrFun (Stretch.total1 (W2 m ρ c)) _).trans (Stats.total64 _ _ (edges1 m ρ c H) b n o)
  · exact fun b n o => (congrFun (Stretch.square1 (W2 m ρ c)) _).trans (Stats.square64 _ _ (edges1 m ρ c H) b n o)
  · exact fun b n o => (congrFun (Stretch.zero1 (W2 m ρ c)) _).trans (Stretch.zero64_at b n o)

/-- The first layer's rows are the reference's features. -/
theorem rows1_at (H : Plain m c) (b : Fin 4) (n : Fin 2048) (o : Fin 64) :
    W4 m ρ c (Proc.devRef .tc main_v35) (ix3 b n o)
      = Cert.ReferenceIdeal.Read.val_main_v58 (F := Ideal) (a0 m c) (a1 m c) (a2 m c) (a3 m c) (ix3 b o n) :=
  (congrFun (rows1 m ρ c H) _).trans (RefChain.out1 H b o n).symm

end Cert.KernChain
-- ==== Proof.Pre.lean ====
module

public import proofs.«01_k».proof.Defs
public import Idealize.ShloMosaic.Lib.IdealHost
public import proofs.«01_k».proof.Proof.Kern.Chain1

/-! What the precondition says of the arguments: the points and the weights are real numbers, every norm scales by
one and shifts by zero. -/

@[expose] public section

set_option maxRecDepth 16384

noncomputable section

open Idealize.ShloMosaic Idealize.ShloMosaic.TcCoe

namespace Cert.PreRead
open Cert.Edges (IsReal)

/-- The precondition's own shape conditions. -/
theorem facts : Cert.Pre_finite_and_unit_norms.Facts where
  bcast_S_S4x3x2048 := by decide
  bcast_S_S64x6 := by decide
  bcast_S_S64x128 := by decide
  bcast_S_S128x128 := by decide
  bcast_S_S1024x256 := by decide
  bcast_S_S1024 := by decide
  bcast_S_S64 := by decide
  bcast_S_S128 := by decide

/-- A number below infinity in absolute value is real. -/
theorem isReal_of_abs {x : EReal} (h : max x (-x) < ⊤) : IsReal x := by
  induction x using EReal.rec with
  | bot => simp at h
  | coe r => exact ⟨r, rfl⟩
  | top => simp at h

/-- An argument whose absolute values compare below infinity is real throughout. -/
theorem real_of {S : Shape} (x : FVec Ideal S .f32) (hb : Cert.Pre_finite_and_unit_norms.S_.BroadcastsInDim S (![] : Fin 0 → Fin S.rank))
    (h : cmpf .olt (Host.absf x) (broadcastInDim S ![] hb (constant (F := Ideal) Cert.Pre_finite_and_unit_norms.S_ .f32 0x7F800000#32)) = fun _ => 1#1)
    (j : S.Idx) : IsReal (x j) := by
  have h1 : Ideal.cmp .olt (max (x j) (-(x j))) (Ideal.ofBits .f32 0x7F800000#32) = 1 := congrFun h j
  rw [Consts.ofBits_inf] at h1
  exact isReal_of_abs ((Ideal.cmp_olt_eq_one _ _).mp h1)

/-- An argument that compares equal to a literal is that literal throughout. -/
theorem eq_of {S : Shape} (x : FVec Ideal S .f32) (hb : Cert.Pre_finite_and_unit_norms.S_.BroadcastsInDim S (![] : Fin 0 → Fin S.rank))
    (w : BitVec 32)
    (h : cmpf .oeq x (broadcastInDim S ![] hb (constant (F := Ideal) Cert.Pre_finite_and_unit_norms.S_ .f32 w)) = fun _ => 1#1)
    (j : S.Idx) : (x j : EReal) = Ideal.ofBits .f32 w := by
  have h1 : Ideal.cmp .oeq (x j) (Ideal.ofBits .f32 w) = 1 := congrFun h j
  exact (Ideal.cmp_oeq_eq_one _ _).mp h1

/-- The literal one. -/
theorem one_lit : Ideal.ofBits .f32 0x3F800000#32 = (1 : EReal) := Ideal.ofBits_one_f32

/-- The literal zero. -/
theorem zero_lit : Ideal.ofBits .f32 0x00000000#32 = (0 : EReal) := by
  simp [Ideal.ofBits, Ideal.ieee]

open Cert.KernelIdeal in
/-- The precondition gives what the value proof assumes. -/
theorem plain (m : (ℓ : Loc nD τ sig) → Buf (Elt Ideal) ℓ)
    (h : Cert.Pre_KernelIdeal_finite_and_unit_norms (hPre_finite_and_unit_norms := facts) m) (c : Dev nD) : KernChain.Plain m c := by
  obtain ⟨h0, h1, h4, h7, h10, h11, h2, h5, h8, h12, h3, h6, h9, h13⟩ := h c
  exact
    { r0 := real_of _ _ h0
      r1 := real_of _ _ h1
      r4 := real_of _ _ h4
      r7 := real_of _ _ h7
      r10 := real_of _ _ h10
      r11 := real_of _ _ h11
      w2 := fun o => (eq_of _ _ _ h2 _).trans one_lit
      w5 := fun o => (eq_of _ _ _ h5 _).trans one_lit
      w8 := fun o => (eq_of _ _ _ h8 _).trans one_lit
      w12 := fun o => (eq_of _ _ _ h12 _).trans one_lit
      b3 := fun o => (eq_of _ _ _ h3 _).trans zero_lit
      b6 := fun o => (eq_of _ _ _ h6 _).trans zero_lit
      b9 := fun o => (eq_of _ _ _ h9 _).trans zero_lit
      b13 := fun o => (eq_of _ _ _ h13 _).trans zero_lit }

end Cert.PreRead
-- ==== Proof.Kern.Dist2.lean ====
module

public import proofs.«01_k».proof.Proof.Kern.Gap
public import Idealize.ShloMosaic.Lib.Tactic.CleanTypes
public import Idealize.ShloMosaic.Lib.Pipeline.ValueKit

/-! What distance pass 2 leaves: the score of every pair of points. -/

@[expose] public section

set_option maxRecDepth 16384

noncomputable section

open Idealize.ShloMosaic Idealize.ShloMosaic.TcCoe

namespace Cert.Dist2
open Cert.KernelIdeal Cert.KernelIdeal.Gen Cert.Gap

variable (V : (c : Dev nD) → (b : Ref sig .tc) → Buf (Elt Ideal) ((c : Thread nD τ).loc b))

/-- The blocks a grid point reads and writes: batch and row block. -/
theorem idx : ∀ t : Fin grid2.N, win2_0.index t = ![(grid2.coords t 0).val, (grid2.coords t 1).val, 0]
    ∧ win2_1.index t = ![(grid2.coords t 0).val, 0, 0]
    ∧ win2_4.index t = ![(grid2.coords t 0).val, (grid2.coords t 1).val, 0] := by decide +kernel

/-- One block of scores is that block of the array. -/
theorem point (c : Dev nD) (t : Fin cfg2.N) (y : S1x256x2048.Idx) :
    k2_pay3 (iblk2 V c 0 t) (iblk2 V c 1 t) y =
      wide (V c main_v35) (V c main_v42) (((View.whole main_v43_0).slice (win2_4.rect t)).emb y) := by
  clean_types
  pointwise [k2_pay3, k2_pay2, wide]
  blk_point [iblk2, idx t]

/-- The whole array of scores. -/
theorem region (c : Dev nD) : (dat2 V c).arrAt 4 cfg2.N = wide (V c main_v35) (V c main_v42) := by
  refine (dat2 V c).arrAt_eq_of_covers 4 _ (by decide +kernel) fun t hf y => ?_
  blk_simp
  rw [after2_4]
  frame_out
  exact point V c t y

end Cert.Dist2
-- ==== Proof.Kern.Layer2.lean ====
module

public import proofs.«01_k».proof.Proof.Kern.Finish64
public import Idealize.ShloMosaic.Lib.Pipeline.ValueKit

/-! What normalisation pass 2 leaves: the layer's values, from real edge values. -/

@[expose] public section

set_option maxRecDepth 16384
set_option maxHeartbeats 4000000

noncomputable section

open Idealize.ShloMosaic Idealize.ShloMosaic.TcCoe

namespace Cert.Layer2
open Cert.KernelIdeal Cert.KernelIdeal.Gen Cert.RealNorm Cert.Finish64

variable (V : (c : Dev nD) → (b : Ref sig .tc) → Buf (Elt Ideal) ((c : Thread nD τ).loc b))

/-- Every window's block is one batch. -/
theorem idx : ∀ t : Fin grid3.N, win3_0.index t = ![(grid3.coords t 0).val, 0, 0]
    ∧ win3_1.index t = ![(grid3.coords t 0).val, 0, 0] ∧ win3_2.index t = ![(grid3.coords t 0).val, 0, 0]
    ∧ win3_3.index t = ![(grid3.coords t 0).val, 0, 0] ∧ win3_4.index t = ![(grid3.coords t 0).val, 0, 0] := by
  decide +kernel

/-- The layer's values over the batches. -/
def values (h : Fin 4 → Fin 2048 → Fin 80 → Fin 64 → ℝ) : Vec Ideal S4x2048x64 .f32 :=
  fun z => ((layer hO 5242880 (h (z 0)) (z 1) (z 2) : ℝ) : EReal)

/-- The pass's output array, from arrays of neighbour maxima, sums and sums of squares. -/
theorem region (c : Dev nD) (h : Fin 4 → Fin 2048 → Fin 80 → Fin 64 → ℝ)
    (h0 : ∀ b n o, (V c main_v66 (ix3 b n o) : EReal) = ((top (fun k => h b n k o) : ℝ) : EReal))
    (h1 : ∀ b n o, (V c main_v67 (ix3 b n o) : EReal) = ∑ k, ((h b n k o : ℝ) : EReal))
    (h2 : ∀ b n o, (V c main_v69 (ix3 b n o) : EReal) = ∑ k, ((h b n k o : ℝ) : EReal) * ((h b n k o : ℝ) : EReal))
    (h3 : ∀ b n o, V c main_v70 (ix3 b n o) = (0 : EReal)) :
    (dat3 V c).arrAt 4 cfg3.N = values h := by
  refine (dat3 V c).arrAt_eq_of_covers 4 _ (by decide +kernel) fun t hf y => ?_
  blk_simp
  rw [after3_4]
  frame_out
  have e := block (iblk3 V c 0 t) (iblk3 V c 1 t) (iblk3 V c 2 t) (iblk3 V c 3 t) (h (grid3.coords t 0))
    (fun n o => Eq.trans (by blk_ext [iblk3, idx t]) (h0 (grid3.coords t 0) n o))
    (fun n o => Eq.trans (by blk_ext [iblk3, idx t]) (h1 (grid3.coords t 0) n o))
    (fun n o => Eq.trans (by blk_ext [iblk3, idx t]) (h2 (grid3.coords t 0) n o))
    (fun n o => Eq.trans (by blk_ext [iblk3, idx t]) (h3 (grid3.coords t 0) n o)) (y 0) (y 1) (y 2)
  have e0 : ((View.whole main_v71).slice (win3_4.rect t)).emb y 0 = grid3.coords t 0 := Fin.ext (by blk_simp [idx t])
  have e1 : ((View.whole main_v71).slice (win3_4.rect t)).emb y 1 = y 1 := Fin.ext (by blk_simp [idx t])
  have e2 : ((View.whole main_v71).slice (win3_4.rect t)).emb y 2 = y 2 := Fin.ext (by blk_simp [idx t])
  unfold values
  rw [e0, e1, e2, ← e]
  exact congrArg _ (eq_ix3 y)

end Cert.Layer2
-- ==== Proof.Kern.Chain2.lean ====
module

public import proofs.«01_k».proof.Proof.Kern.Chain1
public import proofs.«01_k».proof.Proof.Kern.Dist2
public import proofs.«01_k».proof.Proof.Kern.Layer2

/-! The kernel's second layer: its rows are the reference's. -/

@[expose] public section

set_option maxRecDepth 16384
set_option maxHeartbeats 1000000

noncomputable section

open Idealize.ShloMosaic Idealize.ShloMosaic.TcCoe

namespace Cert.KernChain
open Cert.KernelIdeal Cert.KernelIdeal.Gen Cert.RealNorm

variable (m : (ℓ : Loc nD τ sig) → Buf (Elt Ideal) ℓ) (ρ : Dev nD → PrngReg) (c : Dev nD)

/-- The rows layer 2 starts from. -/
theorem start2 (H : Plain m c) : W4 m ρ c (Proc.devRef .tc main_v35) = Cert.ReferenceIdeal.Read.val_main_v71 (F := Ideal) (a0 m c) (a1 m c) (a2 m c) (a3 m c) := by
  funext z
  rw [eq_ix3 z]
  exact (rows1_at m ρ c H (z 0) (z 1) (z 2)).trans (RefJoin.turn (Cert.ReferenceIdeal.Read.val_main_v58 (F := Ideal) (a0 m c) (a1 m c) (a2 m c) (a3 m c)) (z 0) (z 1) (z 2)).symm

theorem carried2 (H : Plain m c) : W5 m ρ c (Proc.devRef .tc main_v35) = Cert.ReferenceIdeal.Read.val_main_v71 (F := Ideal) (a0 m c) (a1 m c) (a2 m c) (a3 m c) :=
  (W5_of m ρ c main_v35 (by decide +kernel)).trans (start2 m ρ c H)

theorem points3 (H : Plain m c) : W6 m ρ c (Proc.devRef .tc main_v35) = Cert.ReferenceIdeal.Read.val_main_v71 (F := Ideal) (a0 m c) (a1 m c) (a2 m c) (a3 m c) :=
  (W6_of m ρ c main_v35 (by decide +kernel)).trans (carried2 m ρ c H)

/-- The second table of pairs. -/
theorem pairs2 (H : Plain m c) : W6 m ρ c (Proc.devRef .tc main_v43_0) = Cert.ReferenceIdeal.Read.val_main_v70 (F := Ideal) (a0 m c) (a1 m c) (a2 m c) (a3 m c) := by
  refine (W6_arr m ρ c 4).trans ((Dist2.region (V5 m ρ) c).trans ?_)
  have e1 : V5 m ρ c main_v42 = transpose S4x64x2048 [0, 2, 1] (W4 m ρ c (Proc.devRef .tc main_v35)) transposes_S4x2048x64_S4x64x2048_0_2_1 :=
    Ends.columns2 (W4 m ρ c)
  have e0 : V5 m ρ c main_v35 = W4 m ρ c (Proc.devRef .tc main_v35) := W5_of m ρ c main_v35 (by decide +kernel)
  rw [e0, e1]
  funext z
  rw [eq_ix3 z]
  exact (Gap.wide_at _ _ (fun b n k => (Cert.ReferenceIdeal.Read.val_main_v58 (F := Ideal) (a0 m c) (a1 m c) (a2 m c) (a3 m c) (ix3 b k n) : EReal))
    (fun b n k => rows1_at m ρ c H b n k) (fun b n k => (Turn.columns_at _ b k n).trans (rows1_at m ρ c H b n k)) _ _ _).trans
    (Cert.RefGap.second (a0 m c) (a1 m c) (a2 m c) (a3 m c) _ _ _).symm

/-- The second layer's edge values. -/
theorem edges2 (H : Plain m c) (b : Fin 4) (n : Fin 2048) (k : Fin 80) (o : Fin 64) :
    (Stretch.edge2 (W6 m ρ c) (ix4 b n k o) : EReal) = ((RefChain.e2 (a0 m c) (a1 m c) (a2 m c) (a3 m c) (a4 m c) b n k o : ℝ) : EReal) := by
  rw [← RefChain.edge2 H, RefEdges.second, RefFeatures.second, Stretch.edge2, Stretch.lin64_at, points3 m ρ c H, pairs2 m ρ c H,
    show W6 m ρ c (Proc.devRef .tc main_arg4) = a4 m c from W6_args m ρ c main_arg4 (by decide)]
  exact Finset.sum_congr rfl fun k _ => mul_comm _ _

/-- The second layer's rows. -/
theorem rows2 (H : Plain m c) : W8 m ρ c (Proc.devRef .tc main_v71) = Layer2.values (RefChain.e2 (a0 m c) (a1 m c) (a2 m c) (a3 m c) (a4 m c)) := by
  refine (W8_arr m ρ c 4).trans (Layer2.region (V7 m ρ) c _ ?_ ?_ ?_ ?_)
  · exact fun b n o => (congrFun (Stretch.most2 (W6 m ρ c)) _).trans (Stats.most64 _ _ (edges2 m ρ c H) b n o)
  · exact fun b n o => (congrFun (Stretch.total2 (W6 m ρ c)) _).trans (Stats.total64 _ _ (edges2 m ρ c H) b n o)
  · exact fun b n o => (congrFun (Stretch.square2 (W6 m ρ c)) _).trans (Stats.square64 _ _ (edges2 m ρ c H) b n o)
  · exact fun b n o => (congrFun (Stretch.zero2 (W6 m ρ c)) _).trans (Stretch.zero64_at b n o)

/-- The second layer's rows are the reference's features. -/
theorem rows2_at (H : Plain m c) (b : Fin 4) (n : Fin 2048) (o : Fin 64) :
    W8 m ρ c (Proc.devRef .tc main_v71) (ix3 b n o) = Cert.ReferenceIdeal.Read.val_main_v117 (F := Ideal) (a0 m c) (a1 m c) (a2 m c) (a3 m c) (a4 m c) (a5 m c) (a6 m c) (ix3 b o n) :=
  (congrFun (rows2 m ρ c H) _).trans (RefChain.out2 H b o n).symm

end Cert.KernChain
-- ==== Proof.Kern.Dist3.lean ====
module

public import proofs.«01_k».proof.Proof.Kern.Gap
public import Idealize.ShloMosaic.Lib.Tactic.CleanTypes
public import Idealize.ShloMosaic.Lib.Pipeline.ValueKit

/-! What distance pass 3 leaves: the score of every pair of points. -/

@[expose] public section

set_option maxRecDepth 16384
set_option maxHeartbeats 1000000

noncomputable section

open Idealize.ShloMosaic Idealize.ShloMosaic.TcCoe

namespace Cert.Dist3
open Cert.KernelIdeal Cert.KernelIdeal.Gen Cert.Gap

variable (V : (c : Dev nD) → (b : Ref sig .tc) → Buf (Elt Ideal) ((c : Thread nD τ).loc b))

/-- The blocks a grid point reads and writes: batch and row block. -/
theorem idx : ∀ t : Fin grid4.N, win4_0.index t = ![(grid4.coords t 0).val, (grid4.coords t 1).val, 0]
    ∧ win4_1.index t = ![(grid4.coords t 0).val, 0, 0]
    ∧ win4_4.index t = ![(grid4.coords t 0).val, (grid4.coords t 1).val, 0] := by decide +kernel

/-- One block of scores is that block of the array. -/
theorem point (c : Dev nD) (t : Fin cfg4.N) (y : S1x256x2048.Idx) :
    k4_pay3 (iblk4 V c 0 t) (iblk4 V c 1 t) y =
      wide (V c main_v71) (V c main_v78) (((View.whole main_v79_0).slice (win4_4.rect t)).emb y) := by
  clean_types
  pointwise [k4_pay3, k4_pay2, wide]
  blk_point [iblk4, idx t]

/-- The whole array of scores. -/
theorem region (c : Dev nD) : (dat4 V c).arrAt 4 cfg4.N = wide (V c main_v71) (V c main_v78) := by
  refine (dat4 V c).arrAt_eq_of_covers 4 _ (by decide +kernel) fun t hf y => ?_
  blk_simp
  rw [after4_4]
  frame_out
  exact point V c t y

end Cert.Dist3
-- ==== Proof.Kern.Finish128.lean ====
module

public import proofs.«01_k».proof.Proof.Gen.KernelIdeal.Frame
public import proofs.«01_k».proof.Proof.Real.Pass
public import Idealize.ShloMosaic.Lib.Pointwise
public import Idealize.ShloMosaic.Lib.Tactic.CleanTypes

/-! One batch's normalisation in the third layer: the kernel's block of results is the layer's values. -/

@[expose] public section

set_option maxRecDepth 16384

noncomputable section

open Idealize.ShloMosaic Idealize.ShloMosaic.TcCoe

namespace Cert.Finish128
open Cert.KernelIdeal Cert.KernelIdeal.Gen Cert.RealNorm Cert.Consts

theorem hO : 2 * 64 = 128 := rfl
theorem pos : (0 : ℝ) < 10485760 := by norm_num
theorem card : ((64 * (2048 * 80) : ℕ) : ℝ) = 10485760 := by norm_num

theorem first (p : Fin 64) (hp) : (⟨p.val, hp⟩ : Fin 128) = member hO 0 p := Fin.ext (by simp [member])
theorem second (p : Fin 64) (hp) : (⟨64 + p.val, hp⟩ : Fin 128) = member hO 1 p := Fin.ext (by simp [member])

/-- Of two values, the one of the channel's group. -/
theorem pick {α : Type} (o : Fin 128) (f : Fin 2 → α) (d : α) :
    Scalar.select (IntOp.andi (IntOp.cmpi .sge (BitVec.ofNat 32 o.val) 64#32) (IntOp.cmpi .slt (BitVec.ofNat 32 o.val) 128#32)) (f 1)
      (Scalar.select (IntOp.andi (IntOp.cmpi .sge (BitVec.ofNat 32 o.val) 0#32) (IntOp.cmpi .slt (BitVec.ofNat 32 o.val) 64#32)) (f 0) d)
      = f (home hO o) := by
  have ho := o.isLt
  rw [within o.val 64 128 _ _ (by omega) (by norm_num) (by norm_num), within o.val 0 64 _ _ (by omega) (by norm_num) (by norm_num)]
  have h1 := home_iff hO o 1
  have h0 := home_iff hO o 0
  by_cases hc : 64 ≤ o.val
  · rw [if_pos ⟨hc, ho⟩, h1.1 ⟨hc, ho⟩]
  · rw [if_neg (fun h => hc h.1), if_pos ⟨Nat.zero_le _, by omega⟩, h0.1 ⟨Nat.zero_le _, by show o.val < 0 * 64 + 64; omega⟩]

/-- The normalised and activated value, given each group's mean and reciprocal deviation. -/
theorem core (v1 v7 : FVec Ideal S2048x128 .f32) (v11 v20 : FVec Ideal S128 .f32) (v29 v35 : Ideal .f32) (n : Fin 2048) (o : Fin 128)
    (x : ℝ) (m s : Fin 2 → ℝ) (hx : (v1 (ix2 n o) : EReal) = (x : EReal)) (hz : (v7 (ix2 n o) : EReal) = 0)
    (hm0 : (v29 : EReal) = (m 0 : EReal))
    (hm1 : Ideal.div (∑ p : Fin 64, (v11 (ix1 ⟨64 + p.val, by omega⟩) : EReal)) (Ideal.ofBits .f32 1260388352#32) = (m 1 : EReal))
    (hs0 : Ideal.rsqrt ((v35 : EReal) - (m 0 : EReal) * (m 0 : EReal) + Ideal.ofBits .f32 925353388#32) = (((s 0)⁻¹ : ℝ) : EReal))
    (hs1 : Ideal.rsqrt (Ideal.div (∑ p : Fin 64, (v20 (ix1 ⟨64 + p.val, by omega⟩) : EReal)) (Ideal.ofBits .f32 1260388352#32)
      - (m 1 : EReal) * (m 1 : EReal) + Ideal.ofBits .f32 925353388#32) = (((s 1)⁻¹ : ℝ) : EReal)) :
    k5_pay11 v1 v7 v11 v20 (iota .tc S1x128 32 [1] iota_S1x128_d1_w32) (k5_pay7 (F := Ideal)) (k5_pay8 (F := Ideal)) v29 v35 (ix2 n o)
      = ((leaky ((x - m (home hO o)) / s (home hO o)) : ℝ) : EReal) := by
  have e1 := pick o (fun g => ((m g : ℝ) : EReal)) 0
  have e2 := pick o (fun g => (((s g)⁻¹ : ℝ) : EReal)) 0
  have er : ∀ z : EReal, (Scalar.rsqrt (F := Ideal) (φ := .f32) z : EReal) = Ideal.rsqrt z := fun _ => rfl
  beta_reduce at e1 e2
  clean_types
  pointwise [k5_pay11, k5_pay7, k5_pay8]
  simp only [er, hm0, hm1, hs0, hs1, e1, e2, hx, hz, add_zero, ofBits_slope, shift_scale_ext]
  exact leaky_ext _

/-- The block the pass stores, from the neighbour maxima, sums and sums of squares of real edge values. -/
theorem block (u0 u1 u2 u3 : Vec Ideal S1x2048x128 .f32) (h : Fin 2048 → Fin 80 → Fin 128 → ℝ)
    (h0 : ∀ n o, (u0 (ix3 0 n o) : EReal) = ((top (fun k => h n k o) : ℝ) : EReal))
    (h1 : ∀ n o, (u1 (ix3 0 n o) : EReal) = ∑ k, ((h n k o : ℝ) : EReal))
    (h2 : ∀ n o, (u2 (ix3 0 n o) : EReal) = ∑ k, ((h n k o : ℝ) : EReal) * ((h n k o : ℝ) : EReal))
    (h3 : ∀ n o, (u3 (ix3 0 n o) : EReal) = 0) (a : Fin 1) (n : Fin 2048) (o : Fin 128) :
    k5_pay1 (k5_pay11 (k5_pay2 u0) (k5_pay4 u3) (k5_pay5 u1 u3) (k5_pay6 u1 u2 u3) (iota .tc S1x128 32 [1] iota_S1x128_d1_w32)
      (k5_pay7 (F := Ideal)) (k5_pay8 (F := Ideal)) (k5_pay9 u1 u3) (k5_pay10 u1 u2 u3)) (ix3 a n o)
      = ((layer hO 10485760 h n o : ℝ) : EReal) := by
  have e5 : ∀ o : Fin 128, (k5_pay5 u1 u3 (ix1 o) : EReal) = ∑ n, ∑ k, ((h n k o : ℝ) : EReal) := by
    intro o
    clean_types
    pointwise [k5_pay5, k5_pay3, k5_pay4]
    simp only [h1, h3, mul_zero, add_zero]
  have e6 : ∀ o : Fin 128, (k5_pay6 u1 u2 u3 (ix1 o) : EReal) = ∑ n, ∑ k, ((h n k o : ℝ) : EReal) * ((h n k o : ℝ) : EReal) := by
    intro o
    clean_types
    pointwise [k5_pay6, k5_pay3, k5_pay4]
    simp only [h2, h3, mul_zero, zero_mul, add_zero]
  have m0 : (k5_pay9 u1 u3 : EReal) = ((mean 10485760 (grp hO h 0) : ℝ) : EReal) := by
    rw [← pass_mean hO h 0 pos (fun p => k5_pay5 u1 u3 (ix1 (member hO 0 p))) (fun p => e5 _)]
    clean_types
    pointwise [k5_pay9]
    rw [ofBits_cnt128]
    simp only [first]
  have s0 : Ideal.rsqrt ((k5_pay10 u1 u2 u3 : EReal) - ((mean 10485760 (grp hO h 0) : ℝ) : EReal) * ((mean 10485760 (grp hO h 0) : ℝ) : EReal)
      + Ideal.ofBits .f32 925353388#32) = (((dev 10485760 (grp hO h 0))⁻¹ : ℝ) : EReal) := by
    rw [← pass_scale hO h 0 pos card (fun p => k5_pay6 u1 u2 u3 (ix1 (member hO 0 p))) _ rfl (fun p => e6 _), ← ofBits_eps]
    clean_types
    pointwise [k5_pay10]
    rw [ofBits_cnt128]
    simp only [first]
  have q : ∀ v : FVec Ideal S128 .f32, ∑ p : Fin 64, (v (ix1 ⟨64 + p.val, by omega⟩) : EReal) = ∑ p : Fin 64, (v (ix1 (member hO 1 p)) : EReal) := by
    intro v
    simp only [second]
  have hp := core (k5_pay2 u0) (k5_pay4 u3) (k5_pay5 u1 u3) (k5_pay6 u1 u2 u3) (k5_pay9 u1 u3) (k5_pay10 u1 u2 u3) n o
    (top (fun k => h n k o)) (fun g => mean 10485760 (grp hO h g)) (fun g => dev 10485760 (grp hO h g))
    (by clean_types; pointwise [k5_pay2]; exact h0 n o) (by clean_types; pointwise [k5_pay4]; exact h3 n o) m0
    (by rw [q, ofBits_cnt128]; exact pass_mean hO h 1 pos _ (fun p => e5 _)) s0
    (by rw [q, ofBits_cnt128, ofBits_eps]; exact pass_scale hO h 1 pos card _ _ rfl (fun p => e6 _))
  rw [show (((layer hO 10485760 h n o : ℝ)) : EReal) = _ from hp.symm]
  clean_types
  pointwise [k5_pay1]

end Cert.Finish128
-- ==== Proof.Kern.Layer3.lean ====
module

public import proofs.«01_k».proof.Proof.Kern.Finish128
public import Idealize.ShloMosaic.Lib.Pipeline.ValueKit

/-! What normalisation pass 3 leaves: the layer's values, from real edge values. -/

@[expose] public section

set_option maxRecDepth 16384
set_option maxHeartbeats 4000000

noncomputable section

open Idealize.ShloMosaic Idealize.ShloMosaic.TcCoe

namespace Cert.Layer3
open Cert.KernelIdeal Cert.KernelIdeal.Gen Cert.RealNorm Cert.Finish128

variable (V : (c : Dev nD) → (b : Ref sig .tc) → Buf (Elt Ideal) ((c : Thread nD τ).loc b))

/-- Every window's block is one batch. -/
theorem idx : ∀ t : Fin grid5.N, win5_0.index t = ![(grid5.coords t 0).val, 0, 0]
    ∧ win5_1.index t = ![(grid5.coords t 0).val, 0, 0] ∧ win5_2.index t = ![(grid5.coords t 0).val, 0, 0]
    ∧ win5_3.index t = ![(grid5.coords t 0).val, 0, 0] ∧ win5_4.index t = ![(grid5.coords t 0).val, 0, 0] := by
  decide +kernel

/-- The layer's values over the batches. -/
def values (h : Fin 4 → Fin 2048 → Fin 80 → Fin 128 → ℝ) : Vec Ideal S4x2048x128 .f32 :=
  fun z => ((layer hO 10485760 (h (z 0)) (z 1) (z 2) : ℝ) : EReal)

/-- The pass's output array, from arrays of neighbour maxima, sums and sums of squares. -/
theorem region (c : Dev nD) (h : Fin 4 → Fin 2048 → Fin 80 → Fin 128 → ℝ)
    (h0 : ∀ b n o, (V c main_v102 (ix3 b n o) : EReal) = ((top (fun k => h b n k o) : ℝ) : EReal))
    (h1 : ∀ b n o, (V c main_v103 (ix3 b n o) : EReal) = ∑ k, ((h b n k o : ℝ) : EReal))
    (h2 : ∀ b n o, (V c main_v105 (ix3 b n o) : EReal) = ∑ k, ((h b n k o : ℝ) : EReal) * ((h b n k o : ℝ) : EReal))
    (h3 : ∀ b n o, V c main_v106 (ix3 b n o) = (0 : EReal)) :
    (dat5 V c).arrAt 4 cfg5.N = values h := by
  refine (dat5 V c).arrAt_eq_of_covers 4 _ (by decide +kernel) fun t hf y => ?_
  blk_simp
  rw [after5_4]
  frame_out
  have e := block (iblk5 V c 0 t) (iblk5 V c 1 t) (iblk5 V c 2 t) (iblk5 V c 3 t) (h (grid5.coords t 0))
    (fun n o => Eq.trans (by blk_ext [iblk5, idx t]) (h0 (grid5.coords t 0) n o))
    (fun n o => Eq.trans (by blk_ext [iblk5, idx t]) (h1 (grid5.coords t 0) n o))
    (fun n o => Eq.trans (by blk_ext [iblk5, idx t]) (h2 (grid5.coords t 0) n o))
    (fun n o => Eq.trans (by blk_ext [iblk5, idx t]) (h3 (grid5.coords t 0) n o)) (y 0) (y 1) (y 2)
  have e0 : ((View.whole main_v107).slice (win5_4.rect t)).emb y 0 = grid5.coords t 0 := Fin.ext (by blk_simp [idx t])
  have e1 : ((View.whole main_v107).slice (win5_4.rect t)).emb y 1 = y 1 := Fin.ext (by blk_simp [idx t])
  have e2 : ((View.whole main_v107).slice (win5_4.rect t)).emb y 2 = y 2 := Fin.ext (by blk_simp [idx t])
  unfold values
  rw [e0, e1, e2, ← e]
  exact congrArg _ (eq_ix3 y)

end Cert.Layer3
-- ==== Proof.Kern.Chain3.lean ====
module

public import proofs.«01_k».proof.Proof.Kern.Chain2
public import proofs.«01_k».proof.Proof.Kern.Dist3
public import proofs.«01_k».proof.Proof.Kern.Layer3

/-! The kernel's third layer: its rows are the reference's. -/

@[expose] public section

set_option maxRecDepth 16384
set_option maxHeartbeats 1000000

noncomputable section

open Idealize.ShloMosaic Idealize.ShloMosaic.TcCoe

namespace Cert.KernChain
open Cert.KernelIdeal Cert.KernelIdeal.Gen Cert.RealNorm

variable (m : (ℓ : Loc nD τ sig) → Buf (Elt Ideal) ℓ) (ρ : Dev nD → PrngReg) (c : Dev nD)

/-- The rows layer 3 starts from. -/
theorem start3 (H : Plain m c) : W8 m ρ c (Proc.devRef .tc main_v71) = Cert.ReferenceIdeal.Read.val_main_v130 (F := Ideal) (a0 m c) (a1 m c) (a2 m c) (a3 m c) (a4 m c) (a5 m c) (a6 m c) := by
  funext z
  rw [eq_ix3 z]
  exact (rows2_at m ρ c H (z 0) (z 1) (z 2)).trans (RefJoin.turn (Cert.ReferenceIdeal.Read.val_main_v117 (F := Ideal) (a0 m c) (a1 m c) (a2 m c) (a3 m c) (a4 m c) (a5 m c) (a6 m c)) (z 0) (z 1) (z 2)).symm

theorem carried3 (H : Plain m c) : W9 m ρ c (Proc.devRef .tc main_v71) = Cert.ReferenceIdeal.Read.val_main_v130 (F := Ideal) (a0 m c) (a1 m c) (a2 m c) (a3 m c) (a4 m c) (a5 m c) (a6 m c) :=
  (W9_of m ρ c main_v71 (by decide +kernel)).trans (start3 m ρ c H)

theorem points4 (H : Plain m c) : W10 m ρ c (Proc.devRef .tc main_v71) = Cert.ReferenceIdeal.Read.val_main_v130 (F := Ideal) (a0 m c) (a1 m c) (a2 m c) (a3 m c) (a4 m c) (a5 m c) (a6 m c) :=
  (W10_of m ρ c main_v71 (by decide +kernel)).trans (carried3 m ρ c H)

/-- The third table of pairs. -/
theorem pairs3 (H : Plain m c) : W10 m ρ c (Proc.devRef .tc main_v79_0) = Cert.ReferenceIdeal.Read.val_main_v129 (F := Ideal) (a0 m c) (a1 m c) (a2 m c) (a3 m c) (a4 m c) (a5 m c) (a6 m c) := by
  refine (W10_arr m ρ c 4).trans ((Dist3.region (V9 m ρ) c).trans ?_)
  have e1 : V9 m ρ c main_v78 = transpose S4x64x2048 [0, 2, 1] (W8 m ρ c (Proc.devRef .tc main_v71)) transposes_S4x2048x64_S4x64x2048_0_2_1 :=
    Ends.columns3 (W8 m ρ c)
  have e0 : V9 m ρ c main_v71 = W8 m ρ c (Proc.devRef .tc main_v71) := W9_of m ρ c main_v71 (by decide +kernel)
  rw [e0, e1]
  funext z
  rw [eq_ix3 z]
  exact (Gap.wide_at _ _ (fun b n k => (Cert.ReferenceIdeal.Read.val_main_v117 (F := Ideal) (a0 m c) (a1 m c) (a2 m c) (a3 m c) (a4 m c) (a5 m c) (a6 m c) (ix3 b k n) : EReal))
    (fun b n k => rows2_at m ρ c H b n k) (fun b n k => (Turn.columns_at _ b k n).trans (rows2_at m ρ c H b n k)) _ _ _).trans
    (Cert.RefGap.third (a0 m c) (a1 m c) (a2 m c) (a3 m c) (a4 m c) (a5 m c) (a6 m c) _ _ _).symm

/-- The third layer's edge values. -/
theorem edges3 (H : Plain m c) (b : Fin 4) (n : Fin 2048) (k : Fin 80) (o : Fin 128) :
    (Stretch.edge3 (W10 m ρ c) (ix4 b n k o) : EReal) = ((RefChain.e3 (a0 m c) (a1 m c) (a2 m c) (a3 m c) (a4 m c) (a5 m c) (a6 m c) (a7 m c) b n k o : ℝ) : EReal) := by
  rw [← RefChain.edge3 H, RefEdges.third, RefFeatures.third, Stretch.edge3, Stretch.lin128_at, points4 m ρ c H, pairs3 m ρ c H,
    show W10 m ρ c (Proc.devRef .tc main_arg7) = a7 m c from W10_args m ρ c main_arg7 (by decide)]
  exact Finset.sum_congr rfl fun k _ => mul_comm _ _

/-- The third layer's rows. -/
theorem rows3 (H : Plain m c) : W12 m ρ c (Proc.devRef .tc main_v107) = Layer3.values (RefChain.e3 (a0 m c) (a1 m c) (a2 m c) (a3 m c) (a4 m c) (a5 m c) (a6 m c) (a7 m c)) := by
  refine (W12_arr m ρ c 4).trans (Layer3.region (V11 m ρ) c _ ?_ ?_ ?_ ?_)
  · exact fun b n o => (congrFun (Stretch.most3 (W10 m ρ c)) _).trans (Stats.most128 _ _ (edges3 m ρ c H) b n o)
  · exact fun b n o => (congrFun (Stretch.total3 (W10 m ρ c)) _).trans (Stats.total128 _ _ (edges3 m ρ c H) b n o)
  · exact fun b n o => (congrFun (Stretch.square3 (W10 m ρ c)) _).trans (Stats.square128 _ _ (edges3 m ρ c H) b n o)
  · exact fun b n o => (congrFun (Stretch.zero3 (W10 m ρ c)) _).trans (Stretch.zero128_at b n o)

/-- The third layer's rows are the reference's features. -/
theorem rows3_at (H : Plain m c) (b : Fin 4) (n : Fin 2048) (o : Fin 128) :
    W12 m ρ c (Proc.devRef .tc main_v107) (ix3 b n o) = Cert.ReferenceIdeal.Read.val_main_v176 (F := Ideal) (a0 m c) (a1 m c) (a2 m c) (a3 m c) (a4 m c) (a5 m c) (a6 m c) (a7 m c) (a8 m c) (a9 m c) (ix3 b o n) :=
  (congrFun (rows3 m ρ c H) _).trans (RefChain.out3 H b o n).symm

end Cert.KernChain
-- ==== Proof.Kern.Head.lean ====
module

public import proofs.«01_k».proof.Proof.Gen.KernelIdeal.Frame
public import proofs.«01_k».proof.Proof.Real.Pass
public import Idealize.ShloMosaic.Lib.Pointwise
public import Idealize.ShloMosaic.Lib.Tactic.CleanTypes

/-! One batch of the last layer: the kernel's block of results is the head's values. -/

@[expose] public section

set_option maxRecDepth 16384
set_option maxHeartbeats 1000000

noncomputable section

open Idealize.ShloMosaic Idealize.ShloMosaic.TcCoe

namespace Cert.KernHead
open Cert.KernelIdeal Cert.KernelIdeal.Gen Cert.RealNorm Cert.Consts

theorem hO : 8 * 128 = 1024 := rfl
theorem pos : (0 : ℝ) < 262144 := by norm_num
theorem card : ((128 * 2048 : ℕ) : ℝ) = 262144 := by norm_num

/-- A channel written as its group's first channel and a place in the group. -/
theorem at_group (g : Fin 8) (a : ℕ) (ha : a = g.val * 128) (p : Fin 128) (hp) : (⟨a + p.val, hp⟩ : Fin 1024) = member hO g p :=
  Fin.ext (by subst ha; rfl)

theorem at_zero (p : Fin 128) (hp) : (⟨p.val, hp⟩ : Fin 1024) = member hO 0 p := Fin.ext (by simp [member])

/-- One comparison of the chain that picks a channel's group. -/
theorem step {α : Type} (o : Fin 1024) (g : Fin 8) (a b : ℕ) (ha : a = g.val * 128) (hb : b = a + 128) (x y : α) :
    Scalar.select (IntOp.andi (IntOp.cmpi .sge (BitVec.ofNat 32 o.val) (BitVec.ofNat 32 a))
      (IntOp.cmpi .slt (BitVec.ofNat 32 o.val) (BitVec.ofNat 32 b))) x y = if home hO o = g then x else y := by
  have ho := o.isLt
  have hg := g.isLt
  rw [within o.val a b x y (by omega) (by omega) (by omega)]
  subst ha; subst hb
  exact if_congr (home_iff hO o g) rfl rfl

/-- Picking by the group's number, one group after another. -/
theorem pick {α : Type} (q : Fin 8) (f : Fin 8 → α) (d : α) :
    (if q = 7 then f 7 else if q = 6 then f 6 else if q = 5 then f 5 else if q = 4 then f 4 else
      if q = 3 then f 3 else if q = 2 then f 2 else if q = 1 then f 1 else if q = 0 then f 0 else d) = f q := by
  split_ifs <;> first | (subst_vars; rfl) | omega

/-- The normalised value cut at zero, given each group's mean and reciprocal deviation. -/
theorem core (v9 v11 v12 v39 : FVec Ideal S1024 .f32) (v32 : Ideal .f32) (o : Fin 1024)
    (x : ℝ) (m s : Fin 8 → ℝ) (hx : (v12 (ix1 o) : EReal) = (x : EReal))
    (h39 : (v39 (ix1 o) : EReal) = if home hO o = 0 then ((m 0 : ℝ) : EReal) else 0)
    (h32 : (v32 : EReal) = (((s 0)⁻¹ : ℝ) : EReal))
    (hm : ∀ g, Ideal.div (∑ p : Fin 128, (v9 (ix1 (member hO g p)) : EReal)) (Ideal.ofBits .f32 1216348160#32) = (m g : EReal))
    (hs : ∀ g, Ideal.rsqrt (Ideal.div (∑ p : Fin 128, (v11 (ix1 (member hO g p)) : EReal)) (Ideal.ofBits .f32 1216348160#32)
      - (m g : EReal) * (m g : EReal) + Ideal.ofBits .f32 925353388#32) = (((s g)⁻¹ : ℝ) : EReal)) :
    k6_pay34 v9 v11 v12 k6_pay6
      (k6_pay30 v9 k6_pay6 (k6_pay23 v9 k6_pay6 (k6_pay14 v9 k6_pay6 v39) (k6_pay16 v9) (k6_pay18 k6_pay6) k6_pay19) (k6_pay25 v9) 512#32)
      (k6_pay31 v9 v11 k6_pay6 (k6_pay24 v9 v11 k6_pay6 (k6_pay15 v9 v11 k6_pay6 (k6_pay7 (F := Ideal)) v32 k6_pay10) (k6_pay17 v9 v11)
        (k6_pay18 k6_pay6) k6_pay19) (k6_pay26 v9 v11) 512#32)
      (k6_pay32 v9) (k6_pay33 v9 v11) (ix1 o) = ((max ((x - m (home hO o)) / s (home hO o)) 0 : ℝ) : EReal) := by
  clean_types
  pointwise [k6_pay34, k6_pay30, k6_pay23, k6_pay14, k6_pay16, k6_pay18, k6_pay19, k6_pay25, k6_pay31, k6_pay24, k6_pay15,
    k6_pay7, k6_pay10, k6_pay17, k6_pay26, k6_pay32, k6_pay33, k6_pay6, k6_pay12, k6_pay13, k6_pay20, k6_pay21, k6_pay22, k6_pay27, k6_pay28, k6_pay29]
  have er : ∀ z : EReal, (Scalar.rsqrt (F := Ideal) (φ := .f32) z : EReal) = Ideal.rsqrt z := fun _ => rfl
  simp only [er, at_group 1 128 rfl, at_group 2 256 rfl, at_group 3 384 rfl, at_group 4 512 rfl, at_group 5 640 rfl,
    at_group 6 768 rfl, at_group 7 896 rfl, hm, hs]
  rw [h39, h32, hx]
  simp only [step o 0 0 128 rfl rfl, step o 1 128 256 rfl rfl, step o 2 256 384 rfl rfl, step o 3 384 512 rfl rfl,
    step o 4 512 640 rfl rfl, step o 5 640 768 rfl rfl, step o 6 768 896 rfl rfl, step o 7 896 1024 rfl rfl]
  rw [pick (home hO o) (fun g => ((m g : ℝ) : EReal)) 0, pick (home hO o) (fun g => (((s g)⁻¹ : ℝ) : EReal)) 0]
  rw [← EReal.coe_sub, ← EReal.coe_mul, relu_ext, div_eq_mul_inv]

/-- The block the last layer stores, from a batch whose linear layer has real values. -/
theorem block (u0 : Vec Ideal S1x2048x256 .f32) (u1 : Vec Ideal S256x1024 .f32) (u2 : Vec Ideal S1024 .f32) (y : Fin 2048 → Fin 1024 → ℝ)
    (hy : ∀ n o, (k6_pay2 u0 u1 u2 (ix2 n o) : EReal) = ((y n o : ℝ) : EReal)) (a b : Fin 1) (o : Fin 1024) :
    k6_pay1 (k6_pay34 (k6_pay3 u0 u1 u2) (k6_pay4 u0 u1 u2) (k6_pay5 u0 u1 u2) k6_pay6
      (k6_pay30 (k6_pay3 u0 u1 u2) k6_pay6 (k6_pay23 (k6_pay3 u0 u1 u2) k6_pay6 (k6_pay14 (k6_pay3 u0 u1 u2) k6_pay6 (k6_pay11 u0 u1 u2))
        (k6_pay16 (k6_pay3 u0 u1 u2)) (k6_pay18 k6_pay6) k6_pay19) (k6_pay25 (k6_pay3 u0 u1 u2)) 512#32)
      (k6_pay31 (k6_pay3 u0 u1 u2) (k6_pay4 u0 u1 u2) k6_pay6 (k6_pay24 (k6_pay3 u0 u1 u2) (k6_pay4 u0 u1 u2) k6_pay6
        (k6_pay15 (k6_pay3 u0 u1 u2) (k6_pay4 u0 u1 u2) k6_pay6 (k6_pay7 (F := Ideal)) (k6_pay9 u0 u1 u2) k6_pay10)
        (k6_pay17 (k6_pay3 u0 u1 u2) (k6_pay4 u0 u1 u2)) (k6_pay18 k6_pay6) k6_pay19) (k6_pay26 (k6_pay3 u0 u1 u2) (k6_pay4 u0 u1 u2)) 512#32)
      (k6_pay32 (k6_pay3 u0 u1 u2)) (k6_pay33 (k6_pay3 u0 u1 u2) (k6_pay4 u0 u1 u2))) (ix3 a b o)
      = ((head hO 262144 y o : ℝ) : EReal) := by
  have e3 : ∀ o : Fin 1024, (k6_pay3 u0 u1 u2 (ix1 o) : EReal) = ∑ n, ((y n o : ℝ) : EReal) := by
    intro o
    clean_types
    pointwise [k6_pay3]
    simp only [hy]
  have e4 : ∀ o : Fin 1024, (k6_pay4 u0 u1 u2 (ix1 o) : EReal) = ∑ n, ((y n o : ℝ) : EReal) * ((y n o : ℝ) : EReal) := by
    intro o
    clean_types
    pointwise [k6_pay4]
    simp only [hy]
  have e5 : (k6_pay5 u0 u1 u2 (ix1 o) : EReal) = ((top (fun n => y n o) : ℝ) : EReal) := by
    rw [← fold_max_coe]
    clean_types
    pointwise [k6_pay5]
    simp only [hy, ofBits_negInf]
  have hm : ∀ g, Ideal.div (∑ p : Fin 128, (k6_pay3 u0 u1 u2 (ix1 (member hO g p)) : EReal)) (Ideal.ofBits .f32 1216348160#32)
      = ((mean 262144 (grpRow hO y g) : ℝ) : EReal) := by
    intro g
    rw [ofBits_cntMlp]
    exact passRow_mean hO y g pos _ (fun p => e3 _)
  have hs : ∀ g, Ideal.rsqrt (Ideal.div (∑ p : Fin 128, (k6_pay4 u0 u1 u2 (ix1 (member hO g p)) : EReal)) (Ideal.ofBits .f32 1216348160#32)
      - ((mean 262144 (grpRow hO y g) : ℝ) : EReal) * ((mean 262144 (grpRow hO y g) : ℝ) : EReal) + Ideal.ofBits .f32 925353388#32)
      = (((dev 262144 (grpRow hO y g))⁻¹ : ℝ) : EReal) := by
    intro g
    rw [ofBits_cntMlp, ofBits_eps]
    exact passRow_scale hO y g pos card _ _ rfl (fun p => e4 _)
  have e8 : (k6_pay8 u0 u1 u2 : EReal) = ((mean 262144 (grpRow hO y 0) : ℝ) : EReal) := by
    rw [← hm 0]
    clean_types
    pointwise [k6_pay8]
    simp only [at_zero]
  have e9 : (k6_pay9 u0 u1 u2 : EReal) = (((dev 262144 (grpRow hO y 0))⁻¹ : ℝ) : EReal) := by
    rw [← hs 0, ← e8]
    clean_types
    pointwise [k6_pay9]
    simp only [at_zero]
    rfl
  have e11 : (k6_pay11 u0 u1 u2 (ix1 o) : EReal) = if home hO o = 0 then ((mean 262144 (grpRow hO y 0) : ℝ) : EReal) else 0 := by
    rw [← e8, ← step o 0 0 128 rfl rfl]
    clean_types
    pointwise [k6_pay11, k6_pay10, k6_pay6]
  have hp := core (k6_pay3 u0 u1 u2) (k6_pay4 u0 u1 u2) (k6_pay5 u0 u1 u2) (k6_pay11 u0 u1 u2) (k6_pay9 u0 u1 u2) o
    (top (fun n => y n o)) (fun g => mean 262144 (grpRow hO y g)) (fun g => dev 262144 (grpRow hO y g)) e5 e11 e9 hm hs
  rw [show ((head hO 262144 y o : ℝ) : EReal) = _ from hp.symm]
  clean_types
  pointwise [k6_pay1]

end Cert.KernHead
-- ==== Proof.Kern.Mlp.lean ====
module

public import proofs.«01_k».proof.Proof.Kern.Head
public import Idealize.ShloMosaic.Lib.Pipeline.ValueKit

/-! What the last layer's region leaves: the head's values, one batch a block. -/

@[expose] public section

set_option maxRecDepth 16384
set_option maxHeartbeats 4000000

noncomputable section

open Idealize.ShloMosaic Idealize.ShloMosaic.TcCoe

namespace Cert.Mlp
open Cert.KernelIdeal Cert.KernelIdeal.Gen Cert.RealNorm Cert.KernHead

variable (V : (c : Dev nD) → (b : Ref sig .tc) → Buf (Elt Ideal) ((c : Thread nD τ).loc b))

/-- The features and the results move with the batch; the weights and the bias stay. -/
theorem idx : ∀ t : Fin grid6.N, win6_0.index t = ![(grid6.coords t 0).val, 0, 0]
    ∧ win6_1.index t = ![0, 0] ∧ win6_2.index t = ![0] ∧ win6_3.index t = ![(grid6.coords t 0).val, 0, 0] := by
  decide +kernel

/-- The linear layer at a place of a block. -/
theorem lin (u0 : Vec Ideal S1x2048x256 .f32) (u1 : Vec Ideal S256x1024 .f32) (u2 : Vec Ideal S1024 .f32) (n : Fin 2048) (o : Fin 1024) :
    (k6_pay2 u0 u1 u2 (ix2 n o) : EReal)
      = (∑ k : Fin 256, (u0 (ix3 0 n k) : EReal) * (u1 (ix2 k o) : EReal)) + (u2 (ix1 o) : EReal) := by
  clean_types
  pointwise [k6_pay2]

/-- The head's values over the batches. -/
def values (y : Fin 4 → Fin 2048 → Fin 1024 → ℝ) : Vec Ideal S4x1x1024 .f32 :=
  fun z => ((head hO 262144 (y (z 0)) (z 2) : ℝ) : EReal)

/-- The region's output array, from features and weights whose linear layer has real values. -/
theorem region (c : Dev nD) (y : Fin 4 → Fin 2048 → Fin 1024 → ℝ)
    (F : Fin 4 → Fin 2048 → Fin 256 → EReal) (W : Fin 256 → Fin 1024 → EReal) (B : Fin 1024 → EReal)
    (hF : ∀ b n k, (V c main_v108 (ix3 b n k) : EReal) = F b n k) (hW : ∀ k o, (V c main_v109 (ix2 k o) : EReal) = W k o)
    (hB : ∀ o, (V c main_arg11 (ix1 o) : EReal) = B o)
    (hy : ∀ b n o, (∑ k, F b n k * W k o) + B o = ((y b n o : ℝ) : EReal)) :
    (dat6 V c).arrAt 3 cfg6.N = values y := by
  refine (dat6 V c).arrAt_eq_of_covers 3 _ (by decide +kernel) fun t hf z => ?_
  blk_simp
  rw [after6_3]
  unfold_out out6_3
  frame_out
  have q0 : ∀ n k, (iblk6 V c 0 t (ix3 0 n k) : EReal) = F (grid6.coords t 0) n k := fun n k =>
    Eq.trans (by blk_ext [iblk6, idx t]) (hF (grid6.coords t 0) n k)
  have q1 : ∀ k o, (iblk6 V c 1 t (ix2 k o) : EReal) = W k o := fun k o => Eq.trans (by blk_ext [iblk6, idx t]) (hW k o)
  have q2 : ∀ o, (iblk6 V c 2 t (ix1 o) : EReal) = B o := fun o => Eq.trans (by blk_ext [iblk6, idx t]) (hB o)
  have e := block (iblk6 V c 0 t) (iblk6 V c 1 t) (iblk6 V c 2 t) (y (grid6.coords t 0))
    (fun n o => by
      rw [lin, ← hy (grid6.coords t 0) n o]
      exact congrArg₂ _ (Finset.sum_congr rfl fun k _ => congrArg₂ _ (q0 n k) (q1 k o)) (q2 o)) (z 0) (z 1) (z 2)
  have e0 : ((View.whole main_v110).slice (win6_3.rect t)).emb z 0 = grid6.coords t 0 := Fin.ext (by blk_simp [idx t])
  have e2 : ((View.whole main_v110).slice (win6_3.rect t)).emb z 2 = z 2 := Fin.ext (by blk_simp [idx t])
  unfold values
  rw [e0, e2, ← e]
  exact congrArg _ (eq_ix3 z)

end Cert.Mlp
-- ==== Proof.Kern.Chain4.lean ====
module

public import proofs.«01_k».proof.Proof.Kern.Chain3
public import proofs.«01_k».proof.Proof.Kern.Mlp

/-! The kernel's two results are the reference's. -/

@[expose] public section

set_option maxRecDepth 16384
set_option maxHeartbeats 1000000

noncomputable section

open Idealize.ShloMosaic Idealize.ShloMosaic.TcCoe

namespace Cert.KernChain
open Cert.KernelIdeal Cert.KernelIdeal.Gen Cert.RealNorm
open Cert.ReferenceIdeal.Read

variable (m : (ℓ : Loc nD τ sig) → Buf (Elt Ideal) ℓ) (ρ : Dev nD → PrngReg) (c : Dev nD)

/-- The first layer's rows last until the features are joined. -/
theorem kept1 : W12 m ρ c (Proc.devRef .tc main_v35) = W4 m ρ c (Proc.devRef .tc main_v35) :=
  (W12_of m ρ c main_v35 (by decide +kernel)).trans <| (W11_of m ρ c main_v35 (by decide +kernel)).trans <|
  (W10_of m ρ c main_v35 (by decide +kernel)).trans <| (W9_of m ρ c main_v35 (by decide +kernel)).trans <|
  (W8_of m ρ c main_v35 (by decide +kernel)).trans <| (W7_of m ρ c main_v35 (by decide +kernel)).trans <|
  (W6_of m ρ c main_v35 (by decide +kernel)).trans <| W5_of m ρ c main_v35 (by decide +kernel)

/-- The second layer's rows last until the features are joined. -/
theorem kept2 : W12 m ρ c (Proc.devRef .tc main_v71) = W8 m ρ c (Proc.devRef .tc main_v71) :=
  (W12_of m ρ c main_v71 (by decide +kernel)).trans <| (W11_of m ρ c main_v71 (by decide +kernel)).trans <|
  (W10_of m ρ c main_v71 (by decide +kernel)).trans <| W9_of m ρ c main_v71 (by decide +kernel)

/-- The joined features. -/
theorem features (H : Plain m c) (b : Fin 4) (n : Fin 2048) (k : Fin 256) :
    W13 m ρ c (Proc.devRef .tc main_v108) (ix3 b n k)
      = val_main_v177 (F := Ideal) (a0 m c) (a1 m c) (a2 m c) (a3 m c) (a4 m c) (a5 m c) (a6 m c) (a7 m c) (a8 m c) (a9 m c) (ix3 b k n) := by
  refine (congrFun (Ends.features (W12 m ρ c)) _).trans ?_
  rw [kept1, kept2, RefJoin.features]
  exact RefJoin.joined_eq _ _ _ _ _ _ (rows1_at m ρ c H) (rows2_at m ρ c H) (rows3_at m ρ c H) b n k

/-- The last region's results. -/
theorem outputs (H : Plain m c) : W14 m ρ c (Proc.devRef .tc main_v110)
    = Mlp.values (RefChain.y (a0 m c) (a1 m c) (a2 m c) (a3 m c) (a4 m c) (a5 m c) (a6 m c) (a7 m c) (a8 m c) (a9 m c) (a10 m c) (a11 m c)) := by
  refine (W14_arr m ρ c 3).trans (Mlp.region (V13 m ρ) c _
    (fun b n k => val_main_v177 (F := Ideal) (a0 m c) (a1 m c) (a2 m c) (a3 m c) (a4 m c) (a5 m c) (a6 m c) (a7 m c) (a8 m c) (a9 m c) (ix3 b k n))
    (fun k o => a10 m c (ix2 o k)) (fun o => a11 m c (ix1 o)) ?_ ?_ ?_ ?_)
  · exact features m ρ c H
  · intro k o
    refine (congrFun (Ends.weights (W12 m ρ c)) _).trans ((Turn.weights_at _ k o).trans ?_)
    rw [show W12 m ρ c (Proc.devRef .tc main_arg10) = a10 m c from W12_args m ρ c main_arg10 (by decide)]
  · intro o
    exact congrFun (W13_args m ρ c main_arg11 (by decide)) _
  · intro b n o
    rw [← RefChain.lin H, RefHead.lin_val]
    exact congrArg₂ (fun a b : EReal => a + b) (Finset.sum_congr rfl fun k _ => mul_comm _ _) rfl

/-- The first result. -/
theorem result0 (H : Plain m c) : W15 m ρ c (Proc.devRef .tc main_v111)
    = val_main_v204 (F := Ideal) (a0 m c) (a1 m c) (a2 m c) (a3 m c) (a4 m c) (a5 m c) (a6 m c) (a7 m c) (a8 m c) (a9 m c)
        (a10 m c) (a11 m c) (a12 m c) (a13 m c) := by
  funext z
  rw [eq_ix2 z]
  refine (congrFun (Ends.result0 (W14 m ρ c)) _).trans ((Turn.result0_at _ (z 0) (z 1)).trans ?_)
  rw [outputs m ρ c H]
  exact (RefChain.out4 H (z 0) (z 1)).symm

/-- The second result. -/
theorem result1 (H : Plain m c) : W15 m ρ c (Proc.devRef .tc main_v112)
    = val_main_v177 (F := Ideal) (a0 m c) (a1 m c) (a2 m c) (a3 m c) (a4 m c) (a5 m c) (a6 m c) (a7 m c) (a8 m c) (a9 m c) := by
  funext z
  rw [eq_ix3 z]
  refine (congrFun (Ends.result1 (W14 m ρ c)) _).trans ((Turn.result1_at _ (z 0) (z 1) (z 2)).trans ?_)
  rw [show W14 m ρ c (Proc.devRef .tc main_v108) = W13 m ρ c (Proc.devRef .tc main_v108) from W14_of m ρ c main_v108 (by decide +kernel)]
  exact features m ρ c H (z 0) (z 2) (z 1)

end Cert.KernChain
-- ==== Proof.Kern.Run.lean ====
module

public import proofs.«01_k».proof.Proof.Gen.KernelIdeal.Frame

/-! The kernel's run with its two results: each ends holding what the last boundary's contents say. -/

@[expose] public section

set_option maxRecDepth 16384

noncomputable section

namespace Cert.KernRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel ends with its results at the last boundary's contents and
    its arguments as launched. -/
theorem run : θ_run defs (onTc (τ := τ) (main (F := F))) ⟨m, fun _ => 0, ρ⟩ (fun r => ∀ c : Dev nD,
      r.2.mem ((c.tc : Thread nD τ).loc main_v111) = W15 m ρ c (Proc.devRef .tc main_v111)
      ∧ r.2.mem ((c.tc : Thread nD τ).loc main_v112) = W15 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => fun c =>
      ⟨h c _ (mem_uc main_v111 (by decide)), h c _ (mem_uc main_v112 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c)⟩)

end Cert.KernRun
-- ==== Proof.Algebraic.lean ====
module

public import proofs.«01_k».proof.Proof.Kern.Chain4
public import proofs.«01_k».proof.Proof.Kern.Run
public import proofs.«01_k».proof.Proof.Gen.ReferenceIdeal.Run
public import proofs.«01_k».proof.Proof.Gen.ReferenceIdeal.Read
public import Idealize.ShloMosaic.Lib.Claim

/-! Both programs run from equal arguments to equal results. The agreement of the arguments is stated between plain
arrays, so that neither program's buffer table is compared with the other's. -/

@[expose] public section

set_option maxRecDepth 16384
set_option maxHeartbeats 1000000

noncomputable section

open Idealize.ShloMosaic Idealize.ShloMosaic.TcCoe Idealize.SL.Sem

namespace Cert.Algebraic
open Cert.KernChain

/-- A memory of the kernel's idealization. -/
abbrev KMem : Type := (ℓ : Loc KernelIdeal.nD KernelIdeal.τ KernelIdeal.sig) → Buf (Elt Ideal) ℓ

/-- A memory of the reference. -/
abbrev RMem : Type := (ℓ : Loc ReferenceIdeal.nD ReferenceIdeal.τ ReferenceIdeal.sig) → Buf (Elt Ideal) ℓ

/-! ### The reference's arguments -/

abbrev b0 (m' : RMem) (c : Dev ReferenceIdeal.nD) : Vec Ideal ReferenceIdeal.S4x3x2048 .f32 := m' ((c.tc : Thread ReferenceIdeal.nD ReferenceIdeal.τ).loc ReferenceIdeal.main_arg0)
abbrev b1 (m' : RMem) (c : Dev ReferenceIdeal.nD) : Vec Ideal ReferenceIdeal.S64x6 .f32 := m' ((c.tc : Thread ReferenceIdeal.nD ReferenceIdeal.τ).loc ReferenceIdeal.main_arg1)
abbrev b2 (m' : RMem) (c : Dev ReferenceIdeal.nD) : Vec Ideal ReferenceIdeal.S64 .f32 := m' ((c.tc : Thread ReferenceIdeal.nD ReferenceIdeal.τ).loc ReferenceIdeal.main_arg2)
abbrev b3 (m' : RMem) (c : Dev ReferenceIdeal.nD) : Vec Ideal ReferenceIdeal.S64 .f32 := m' ((c.tc : Thread ReferenceIdeal.nD ReferenceIdeal.τ).loc ReferenceIdeal.main_arg3)
abbrev b4 (m' : RMem) (c : Dev ReferenceIdeal.nD) : Vec Ideal ReferenceIdeal.S64x128 .f32 := m' ((c.tc : Thread ReferenceIdeal.nD ReferenceIdeal.τ).loc ReferenceIdeal.main_arg4)
abbrev b5 (m' : RMem) (c : Dev ReferenceIdeal.nD) : Vec Ideal ReferenceIdeal.S64 .f32 := m' ((c.tc : Thread ReferenceIdeal.nD ReferenceIdeal.τ).loc ReferenceIdeal.main_arg5)
abbrev b6 (m' : RMem) (c : Dev ReferenceIdeal.nD) : Vec Ideal ReferenceIdeal.S64 .f32 := m' ((c.tc : Thread ReferenceIdeal.nD ReferenceIdeal.τ).loc ReferenceIdeal.main_arg6)
abbrev b7 (m' : RMem) (c : Dev ReferenceIdeal.nD) : Vec Ideal ReferenceIdeal.S128x128 .f32 := m' ((c.tc : Thread ReferenceIdeal.nD ReferenceIdeal.τ).loc ReferenceIdeal.main_arg7)
abbrev b8 (m' : RMem) (c : Dev ReferenceIdeal.nD) : Vec Ideal ReferenceIdeal.S128 .f32 := m' ((c.tc : Thread ReferenceIdeal.nD ReferenceIdeal.τ).loc ReferenceIdeal.main_arg8)
abbrev b9 (m' : RMem) (c : Dev ReferenceIdeal.nD) : Vec Ideal ReferenceIdeal.S128 .f32 := m' ((c.tc : Thread ReferenceIdeal.nD ReferenceIdeal.τ).loc ReferenceIdeal.main_arg9)
abbrev b10 (m' : RMem) (c : Dev ReferenceIdeal.nD) : Vec Ideal ReferenceIdeal.S1024x256 .f32 := m' ((c.tc : Thread ReferenceIdeal.nD ReferenceIdeal.τ).loc ReferenceIdeal.main_arg10)
abbrev b11 (m' : RMem) (c : Dev ReferenceIdeal.nD) : Vec Ideal ReferenceIdeal.S1024 .f32 := m' ((c.tc : Thread ReferenceIdeal.nD ReferenceIdeal.τ).loc ReferenceIdeal.main_arg11)
abbrev b12 (m' : RMem) (c : Dev ReferenceIdeal.nD) : Vec Ideal ReferenceIdeal.S1024 .f32 := m' ((c.tc : Thread ReferenceIdeal.nD ReferenceIdeal.τ).loc ReferenceIdeal.main_arg12)
abbrev b13 (m' : RMem) (c : Dev ReferenceIdeal.nD) : Vec Ideal ReferenceIdeal.S1024 .f32 := m' ((c.tc : Thread ReferenceIdeal.nD ReferenceIdeal.τ).loc ReferenceIdeal.main_arg13)

/-- The two memories hold the same arguments. -/
abbrev Agree (m : KMem) (m' : RMem) : Prop := ∀ c : Dev KernelIdeal.nD,
  b0 m' c = a0 m c
  ∧ b1 m' c = a1 m c
  ∧ b2 m' c = a2 m c
  ∧ b3 m' c = a3 m c
  ∧ b4 m' c = a4 m c
  ∧ b5 m' c = a5 m c
  ∧ b6 m' c = a6 m c
  ∧ b7 m' c = a7 m c
  ∧ b8 m' c = a8 m c
  ∧ b9 m' c = a9 m c
  ∧ b10 m' c = a10 m c
  ∧ b11 m' c = a11 m c
  ∧ b12 m' c = a12 m c
  ∧ b13 m' c = a13 m c

/-- The first result, as the reference computes it from the kernel's arguments. -/
def out0 (m : KMem) (c : Dev KernelIdeal.nD) :=
  ReferenceIdeal.Read.val_main_v204 (F := Ideal) (a0 m c) (a1 m c) (a2 m c) (a3 m c) (a4 m c) (a5 m c) (a6 m c) (a7 m c) (a8 m c) (a9 m c) (a10 m c) (a11 m c) (a12 m c) (a13 m c)

/-- The second result, as the reference computes it from the kernel's arguments. -/
def out1 (m : KMem) (c : Dev KernelIdeal.nD) :=
  ReferenceIdeal.Read.val_main_v177 (F := Ideal) (a0 m c) (a1 m c) (a2 m c) (a3 m c) (a4 m c) (a5 m c) (a6 m c) (a7 m c) (a8 m c) (a9 m c)

/-- The reference's first result from its own arguments is the one from the kernel's. -/
theorem ref0 {m : KMem} {m' : RMem} (h : Agree m m') (c : Dev KernelIdeal.nD) :
    ReferenceIdeal.Read.val_main_v204 (F := Ideal) (b0 m' c) (b1 m' c) (b2 m' c) (b3 m' c) (b4 m' c) (b5 m' c) (b6 m' c) (b7 m' c) (b8 m' c) (b9 m' c) (b10 m' c) (b11 m' c) (b12 m' c) (b13 m' c) = out0 m c := by
  obtain ⟨e0, e1, e2, e3, e4, e5, e6, e7, e8, e9, e10, e11, e12, e13⟩ := h c
  rw [e0, e1, e2, e3, e4, e5, e6, e7, e8, e9, e10, e11, e12, e13]
  rfl

/-- The reference's second result from its own arguments is the one from the kernel's. -/
theorem ref1 {m : KMem} {m' : RMem} (h : Agree m m') (c : Dev KernelIdeal.nD) :
    ReferenceIdeal.Read.val_main_v177 (F := Ideal) (b0 m' c) (b1 m' c) (b2 m' c) (b3 m' c) (b4 m' c) (b5 m' c) (b6 m' c) (b7 m' c) (b8 m' c) (b9 m' c) = out1 m c := by
  obtain ⟨e0, e1, e2, e3, e4, e5, e6, e7, e8, e9, -⟩ := h c
  rw [e0, e1, e2, e3, e4, e5, e6, e7, e8, e9]
  rfl

/-- The kernel runs to the results `v0` and `v1` and leaves its arguments. -/
abbrev KRun (m : KMem) (g : Dev KernelIdeal.nD → PrngReg)
    (v0 : (c : Dev KernelIdeal.nD) → Buf (Elt Ideal) ((c.tc : Thread KernelIdeal.nD KernelIdeal.τ).loc KernelIdeal.main_v111))
    (v1 : (c : Dev KernelIdeal.nD) → Buf (Elt Ideal) ((c.tc : Thread KernelIdeal.nD KernelIdeal.τ).loc KernelIdeal.main_v112)) : Prop :=
  θ_run (KernelIdeal.defs (F := Ideal)) (onTc (τ := KernelIdeal.τ) (KernelIdeal.main (F := Ideal))) ⟨m, fun _ => 0, g⟩ (fun r => ∀ c : Dev KernelIdeal.nD,
    r.2.mem ((c.tc : Thread KernelIdeal.nD KernelIdeal.τ).loc KernelIdeal.main_v111) = v0 c
    ∧ r.2.mem ((c.tc : Thread KernelIdeal.nD KernelIdeal.τ).loc KernelIdeal.main_v112) = v1 c
    ∧ r.2.mem ((c.tc : Thread KernelIdeal.nD KernelIdeal.τ).loc KernelIdeal.main_arg0) = m ((c.tc : Thread KernelIdeal.nD KernelIdeal.τ).loc KernelIdeal.main_arg0)
    ∧ r.2.mem ((c.tc : Thread KernelIdeal.nD KernelIdeal.τ).loc KernelIdeal.main_arg1) = m ((c.tc : Thread KernelIdeal.nD KernelIdeal.τ).loc KernelIdeal.main_arg1)
    ∧ r.2.mem ((c.tc : Thread KernelIdeal.nD KernelIdeal.τ).loc KernelIdeal.main_arg2) = m ((c.tc : Thread KernelIdeal.nD KernelIdeal.τ).loc KernelIdeal.main_arg2)
    ∧ r.2.mem ((c.tc : Thread KernelIdeal.nD KernelIdeal.τ).loc KernelIdeal.main_arg3) = m ((c.tc : Thread KernelIdeal.nD KernelIdeal.τ).loc KernelIdeal.main_arg3)
    ∧ r.2.mem ((c.tc : Thread KernelIdeal.nD KernelIdeal.τ).loc KernelIdeal.main_arg4) = m ((c.tc : Thread KernelIdeal.nD KernelIdeal.τ).loc KernelIdeal.main_arg4)
    ∧ r.2.mem ((c.tc : Thread KernelIdeal.nD KernelIdeal.τ).loc KernelIdeal.main_arg5) = m ((c.tc : Thread KernelIdeal.nD KernelIdeal.τ).loc KernelIdeal.main_arg5)
    ∧ r.2.mem ((c.tc : Thread KernelIdeal.nD KernelIdeal.τ).loc KernelIdeal.main_arg6) = m ((c.tc : Thread KernelIdeal.nD KernelIdeal.τ).loc KernelIdeal.main_arg6)
    ∧ r.2.mem ((c.tc : Thread KernelIdeal.nD KernelIdeal.τ).loc KernelIdeal.main_arg7) = m ((c.tc : Thread KernelIdeal.nD KernelIdeal.τ).loc KernelIdeal.main_arg7)
    ∧ r.2.mem ((c.tc : Thread KernelIdeal.nD KernelIdeal.τ).loc KernelIdeal.main_arg8) = m ((c.tc : Thread KernelIdeal.nD KernelIdeal.τ).loc KernelIdeal.main_arg8)
    ∧ r.2.mem ((c.tc : Thread KernelIdeal.nD KernelIdeal.τ).loc KernelIdeal.main_arg9) = m ((c.tc : Thread KernelIdeal.nD KernelIdeal.τ).loc KernelIdeal.main_arg9)
    ∧ r.2.mem ((c.tc : Thread KernelIdeal.nD KernelIdeal.τ).loc KernelIdeal.main_arg10) = m ((c.tc : Thread KernelIdeal.nD KernelIdeal.τ).loc KernelIdeal.main_arg10)
    ∧ r.2.mem ((c.tc : Thread KernelIdeal.nD KernelIdeal.τ).loc KernelIdeal.main_arg11) = m ((c.tc : Thread KernelIdeal.nD KernelIdeal.τ).loc KernelIdeal.main_arg11)
    ∧ r.2.mem ((c.tc : Thread KernelIdeal.nD KernelIdeal.τ).loc KernelIdeal.main_arg12) = m ((c.tc : Thread KernelIdeal.nD KernelIdeal.τ).loc KernelIdeal.main_arg12)
    ∧ r.2.mem ((c.tc : Thread KernelIdeal.nD KernelIdeal.τ).loc KernelIdeal.main_arg13) = m ((c.tc : Thread KernelIdeal.nD KernelIdeal.τ).loc KernelIdeal.main_arg13))

/-- The reference runs to the results `v0` and `v1` and leaves its arguments. -/
abbrev RRun (m' : RMem) (g' : Dev ReferenceIdeal.nD → PrngReg)
    (v0 : (c : Dev KernelIdeal.nD) → Buf (Elt Ideal) ((c.tc : Thread KernelIdeal.nD KernelIdeal.τ).loc KernelIdeal.main_v111))
    (v1 : (c : Dev KernelIdeal.nD) → Buf (Elt Ideal) ((c.tc : Thread KernelIdeal.nD KernelIdeal.τ).loc KernelIdeal.main_v112)) : Prop :=
  θ_run (ReferenceIdeal.defs (F := Ideal)) (onTc (τ := ReferenceIdeal.τ) (ReferenceIdeal.main (F := Ideal))) ⟨m', fun _ => 0, g'⟩ (fun r => ∀ c : Dev ReferenceIdeal.nD,
    r.2.mem ((c.tc : Thread ReferenceIdeal.nD ReferenceIdeal.τ).loc ReferenceIdeal.main_v204) = v0 c
    ∧ r.2.mem ((c.tc : Thread ReferenceIdeal.nD ReferenceIdeal.τ).loc ReferenceIdeal.main_v177) = v1 c
    ∧ r.2.mem ((c.tc : Thread ReferenceIdeal.nD ReferenceIdeal.τ).loc ReferenceIdeal.main_arg0) = m' ((c.tc : Thread ReferenceIdeal.nD ReferenceIdeal.τ).loc ReferenceIdeal.main_arg0)
    ∧ r.2.mem ((c.tc : Thread ReferenceIdeal.nD ReferenceIdeal.τ).loc ReferenceIdeal.main_arg1) = m' ((c.tc : Thread ReferenceIdeal.nD ReferenceIdeal.τ).loc ReferenceIdeal.main_arg1)
    ∧ r.2.mem ((c.tc : Thread ReferenceIdeal.nD ReferenceIdeal.τ).loc ReferenceIdeal.main_arg2) = m' ((c.tc : Thread ReferenceIdeal.nD ReferenceIdeal.τ).loc ReferenceIdeal.main_arg2)
    ∧ r.2.mem ((c.tc : Thread ReferenceIdeal.nD ReferenceIdeal.τ).loc ReferenceIdeal.main_arg3) = m' ((c.tc : Thread ReferenceIdeal.nD ReferenceIdeal.τ).loc ReferenceIdeal.main_arg3)
    ∧ r.2.mem ((c.tc : Thread ReferenceIdeal.nD ReferenceIdeal.τ).loc ReferenceIdeal.main_arg4) = m' ((c.tc : Thread ReferenceIdeal.nD ReferenceIdeal.τ).loc ReferenceIdeal.main_arg4)
    ∧ r.2.mem ((c.tc : Thread ReferenceIdeal.nD ReferenceIdeal.τ).loc ReferenceIdeal.main_arg5) = m' ((c.tc : Thread ReferenceIdeal.nD ReferenceIdeal.τ).loc ReferenceIdeal.main_arg5)
    ∧ r.2.mem ((c.tc : Thread ReferenceIdeal.nD ReferenceIdeal.τ).loc ReferenceIdeal.main_arg6) = m' ((c.tc : Thread ReferenceIdeal.nD ReferenceIdeal.τ).loc ReferenceIdeal.main_arg6)
    ∧ r.2.mem ((c.tc : Thread ReferenceIdeal.nD ReferenceIdeal.τ).loc ReferenceIdeal.main_arg7) = m' ((c.tc : Thread ReferenceIdeal.nD ReferenceIdeal.τ).loc ReferenceIdeal.main_arg7)
    ∧ r.2.mem ((c.tc : Thread ReferenceIdeal.nD ReferenceIdeal.τ).loc ReferenceIdeal.main_arg8) = m' ((c.tc : Thread ReferenceIdeal.nD ReferenceIdeal.τ).loc ReferenceIdeal.main_arg8)
    ∧ r.2.mem ((c.tc : Thread ReferenceIdeal.nD ReferenceIdeal.τ).loc ReferenceIdeal.main_arg9) = m' ((c.tc : Thread ReferenceIdeal.nD ReferenceIdeal.τ).loc ReferenceIdeal.main_arg9)
    ∧ r.2.mem ((c.tc : Thread ReferenceIdeal.nD ReferenceIdeal.τ).loc ReferenceIdeal.main_arg10) = m' ((c.tc : Thread ReferenceIdeal.nD ReferenceIdeal.τ).loc ReferenceIdeal.main_arg10)
    ∧ r.2.mem ((c.tc : Thread ReferenceIdeal.nD ReferenceIdeal.τ).loc ReferenceIdeal.main_arg11) = m' ((c.tc : Thread ReferenceIdeal.nD ReferenceIdeal.τ).loc ReferenceIdeal.main_arg11)
    ∧ r.2.mem ((c.tc : Thread ReferenceIdeal.nD ReferenceIdeal.τ).loc ReferenceIdeal.main_arg12) = m' ((c.tc : Thread ReferenceIdeal.nD ReferenceIdeal.τ).loc ReferenceIdeal.main_arg12)
    ∧ r.2.mem ((c.tc : Thread ReferenceIdeal.nD ReferenceIdeal.τ).loc ReferenceIdeal.main_arg13) = m' ((c.tc : Thread ReferenceIdeal.nD ReferenceIdeal.τ).loc ReferenceIdeal.main_arg13))

/-- The kernel's run. -/
theorem kernel_run (m : KMem) (g : Dev KernelIdeal.nD → PrngReg) (H : ∀ c, KernChain.Plain m c) :
    KRun m g (fun c => out0 m c) (fun c => out1 m c) :=
  θ_run_mono (Cert.KernRun.run m g) fun _ h c =>
    ⟨(h c).1.trans (result0 m g c (H c)), (h c).2.1.trans (result1 m g c (H c)), (h c).2.2⟩

/-- The reference's run. -/
theorem reference_run (m : KMem) (m' : RMem) (g' : Dev ReferenceIdeal.nD → PrngReg) (h : Agree m m') :
    RRun m' g' (fun c => out0 m c) (fun c => out1 m c) :=
  θ_run_mono (Cert.ReferenceIdeal.Value.run m' g') fun _ hr c =>
    ⟨(hr c).1.trans ((ReferenceIdeal.Read.val_main_v204_eq _).trans (ref0 h c)),
     (hr c).2.1.trans ((ReferenceIdeal.Read.val_main_v177_eq _).trans (ref1 h c)), (hr c).2.2⟩

/-- Both runs end with the same two results. -/
theorem both (m : KMem) (g : Dev KernelIdeal.nD → PrngReg) (m' : RMem) (g' : Dev ReferenceIdeal.nD → PrngReg)
    (H : ∀ c, KernChain.Plain m c) (h : Agree m m') :
    ∃ (v0 : (c : Dev KernelIdeal.nD) → Buf (Elt Ideal) ((c.tc : Thread KernelIdeal.nD KernelIdeal.τ).loc KernelIdeal.main_v111))
      (v1 : (c : Dev KernelIdeal.nD) → Buf (Elt Ideal) ((c.tc : Thread KernelIdeal.nD KernelIdeal.τ).loc KernelIdeal.main_v112)),
      KRun m g v0 v1 ∧ RRun m' g' v0 v1 :=
  ⟨fun c => out0 m c, fun c => out1 m c, kernel_run m g H, reference_run m m' g' h⟩

end Cert.Algebraic
-- ==== Proof.lean ====
/- The certificate: every program of the directory runs, leaves its arguments as they were and ends with
   every semaphore counter at zero, the kernel's idealization is its own text, and where the precondition holds its two
   results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.ReferenceFrame
public import proofs.«01_k».proof.Proof.Pre
public import proofs.«01_k».proof.Proof.Algebraic
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.PreRead.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    fun m g m' g' hp => Cert.Algebraic.both m g m' g' (Cert.PreRead.plain m hp)⟩

end Cert.Proof

end
